-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S4096x10 : Shape := ⟨2, ![4096, 10]⟩
abbrev S1024x512 : Shape := ⟨2, ![1024, 512]⟩
abbrev S512 : Shape := ⟨1, ![512]⟩
abbrev S512x1024 : Shape := ⟨2, ![512, 1024]⟩
abbrev S1024 : Shape := ⟨1, ![1024]⟩
abbrev S1024x256 : Shape := ⟨2, ![1024, 256]⟩
abbrev S256 : Shape := ⟨1, ![256]⟩
abbrev S138x1024 : Shape := ⟨2, ![138, 1024]⟩
abbrev S512x512 : Shape := ⟨2, ![512, 512]⟩
abbrev S512x16 : Shape := ⟨2, ![512, 16]⟩
abbrev S16 : Shape := ⟨1, ![16]⟩
abbrev S4096x128 : Shape := ⟨2, ![4096, 128]⟩
abbrev S1x16 : Shape := ⟨2, ![1, 16]⟩
abbrev S128x1024 : Shape := ⟨2, ![128, 1024]⟩
abbrev S10x1024 : Shape := ⟨2, ![10, 1024]⟩
abbrev S1x512 : Shape := ⟨2, ![1, 512]⟩
abbrev S1x1024 : Shape := ⟨2, ![1, 1024]⟩
abbrev S1x256 : Shape := ⟨2, ![1, 256]⟩
abbrev S4096x512 : Shape := ⟨2, ![4096, 512]⟩
abbrev S1024x1 : Shape := ⟨2, ![1024, 1]⟩
abbrev S512x10 : Shape := ⟨2, ![512, 10]⟩
abbrev S512x128 : Shape := ⟨2, ![512, 128]⟩
abbrev S512x256 : Shape := ⟨2, ![512, 256]⟩
abbrev S512x1 : Shape := ⟨2, ![512, 1]⟩

abbrev nBuf : Space → Nat
  | .hbm => 31
  | .vmem => 32
  | .smem => 0
  | _ => 0

abbrev bufTy : (tb : Table) → Fin (tcTables nBuf tb) → BufTy
  | .hbm, ⟨0, _⟩ => ⟨S4096x1024, .f32⟩
  | .hbm, ⟨1, _⟩ => ⟨S4096x10, .f32⟩
  | .hbm, ⟨2, _⟩ => ⟨S1024x512, .f32⟩
  | .hbm, ⟨3, _⟩ => ⟨S512, .f32⟩
  | .hbm, ⟨4, _⟩ => ⟨S512x1024, .f32⟩
  | .hbm, ⟨5, _⟩ => ⟨S1024, .f32⟩
  | .hbm, ⟨6, _⟩ => ⟨S1024x256, .f32⟩
  | .hbm, ⟨7, _⟩ => ⟨S256, .f32⟩
  | .hbm, ⟨8, _⟩ => ⟨S138x1024, .f32⟩
  | .hbm, ⟨9, _⟩ => ⟨S1024, .f32⟩
  | .hbm, ⟨10, _⟩ => ⟨S1024x512, .f32⟩
  | .hbm, ⟨11, _⟩ => ⟨S512, .f32⟩
  | .hbm, ⟨12, _⟩ => ⟨S512x512, .f32⟩
  | .hbm, ⟨13, _⟩ => ⟨S512, .f32⟩
  | .hbm, ⟨14, _⟩ => ⟨S512x16, .f32⟩
  | .hbm, ⟨15, _⟩ => ⟨S16, .f32⟩
  | .hbm, ⟨16, _⟩ => ⟨S4096x128, .f32⟩
  | .hbm, ⟨17, _⟩ => ⟨S1x16, .i32⟩
  | .hbm, ⟨18, _⟩ => ⟨S128x1024, .f32⟩
  | .hbm, ⟨19, _⟩ => ⟨S10x1024, .f32⟩
  | .hbm, ⟨20, _⟩ => ⟨S1x512, .f32⟩
  | .hbm, ⟨21, _⟩ => ⟨S1x1024, .f32⟩
  | .hbm, ⟨22, _⟩ => ⟨S1x256, .f32⟩
  | .hbm, ⟨23, _⟩ => ⟨S1x1024, .f32⟩
  | .hbm, ⟨24, _⟩ => ⟨S1x512, .f32⟩
  | .hbm, ⟨25, _⟩ => ⟨S1x512, .f32⟩
  | .hbm, ⟨26, _⟩ => ⟨S1x16, .f32⟩
  | .hbm, ⟨27, _⟩ => ⟨S4096x512, .f32⟩
  | .hbm, ⟨28, _⟩ => ⟨S1024x512, .f32⟩
  | .hbm, ⟨29, _⟩ => ⟨S1024x1, .f32⟩
  | .hbm, ⟨30, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x10, .f32⟩
  | .local _ .vmem, ⟨3, _⟩ => ⟨S512x10, .f32⟩
  | .local _ .vmem, ⟨4, _⟩ => ⟨S512x128, .f32⟩
  | .local _ .vmem, ⟨5, _⟩ => ⟨S512x128, .f32⟩
  | .local _ .vmem, ⟨6, _⟩ => ⟨S1024x512, .f32⟩
  | .local _ .vmem, ⟨7, _⟩ => ⟨S1x512, .f32⟩
  | .local _ .vmem, ⟨8, _⟩ => ⟨S512x1024, .f32⟩
  | .local _ .vmem, ⟨9, _⟩ => ⟨S1x1024, .f32⟩
  | .local _ .vmem, ⟨10, _⟩ => ⟨S1024x256, .f32⟩
  | .local _ .vmem, ⟨11, _⟩ => ⟨S1x256, .f32⟩
  | .local _ .vmem, ⟨12, _⟩ => ⟨S128x1024, .f32⟩
  | .local _ .vmem, ⟨13, _⟩ => ⟨S10x1024, .f32⟩
  | .local _ .vmem, ⟨14, _⟩ => ⟨S1x1024, .f32⟩
  | .local _ .vmem, ⟨15, _⟩ => ⟨S1024x512, .f32⟩
  | .local _ .vmem, ⟨16, _⟩ => ⟨S1x512, .f32⟩
  | .local _ .vmem, ⟨17, _⟩ => ⟨S512x512, .f32⟩
  | .local _ .vmem, ⟨18, _⟩ => ⟨S1x512, .f32⟩
  | .local _ .vmem, ⟨19, _⟩ => ⟨S512x16, .f32⟩
  | .local _ .vmem, ⟨20, _⟩ => ⟨S1x16, .f32⟩
  | .local _ .vmem, ⟨21, _⟩ => ⟨S1x16, .i32⟩
  | .local _ .vmem, ⟨22, _⟩ => ⟨S512x512, .f32⟩
  | .local _ .vmem, ⟨23, _⟩ => ⟨S512x512, .f32⟩
  | .local _ .vmem, ⟨24, _⟩ => ⟨S1024x512, .f32⟩
  | .local _ .vmem, ⟨25, _⟩ => ⟨S1024x1, .f32⟩
  | .local _ .vmem, ⟨26, _⟩ => ⟨S512x512, .f32⟩
  | .local _ .vmem, ⟨27, _⟩ => ⟨S512x512, .f32⟩
  | .local _ .vmem, ⟨28, _⟩ => ⟨S1024x512, .f32⟩
  | .local _ .vmem, ⟨29, _⟩ => ⟨S1024x1, .f32⟩
  | .local _ .vmem, ⟨30, _⟩ => ⟨S512x1024, .f32⟩
  | .local _ .vmem, ⟨31, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_call0_c : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9_0 : Ref sig .tc := ⟨.hbm, 27, rfl⟩
abbrev main_call0_v9_1 : Ref sig .tc := ⟨.hbm, 28, rfl⟩
abbrev main_call0_v9_2 : Ref sig .tc := ⟨.hbm, 29, rfl⟩
abbrev main_v0 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg18_0 : Ref sig .tc := ⟨.vmem, 21, rfl⟩
abbrev cc0_stg19_0 : Ref sig .tc := ⟨.vmem, 22, rfl⟩
abbrev cc0_stg19_1 : Ref sig .tc := ⟨.vmem, 23, rfl⟩
abbrev cc0_stg20_0 : Ref sig .tc := ⟨.vmem, 24, rfl⟩
abbrev cc0_stg21_0 : Ref sig .tc := ⟨.vmem, 25, rfl⟩
abbrev cc1_stg0_0 : Ref sig .tc := ⟨.vmem, 26, rfl⟩
abbrev cc1_stg0_1 : Ref sig .tc := ⟨.vmem, 27, rfl⟩
abbrev cc1_stg1_0 : Ref sig .tc := ⟨.vmem, 28, rfl⟩
abbrev cc1_stg2_0 : Ref sig .tc := ⟨.vmem, 29, rfl⟩
abbrev cc1_stg3_0 : Ref sig .tc := ⟨.vmem, 30, rfl⟩
abbrev cc1_stg3_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem18_0 : DmaSem sig := 21
abbrev cc0_sem19_0 : DmaSem sig := 22
abbrev cc0_sem19_1 : DmaSem sig := 23
abbrev cc0_sem20_0 : DmaSem sig := 24
abbrev cc0_sem21_0 : DmaSem sig := 25
abbrev cc1_sem0_0 : DmaSem sig := 26
abbrev cc1_sem0_1 : DmaSem sig := 27
abbrev cc1_sem1_0 : DmaSem sig := 28
abbrev cc1_sem2_0 : DmaSem sig := 29
abbrev cc1_sem3_0 : DmaSem sig := 30
abbrev cc1_sem3_1 : DmaSem sig := 31

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x10 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S10x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S512x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S512x16 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x16 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x16 .i32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S512x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 1 → Memref sig .tc .vmem S1024x512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1024x1 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1024x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]
-- ==== ReferenceIdeal.lean ====
abbrev S4096x1024 : Shape := ⟨2, ![4096, 1024]⟩
abbrev S4096x10 : Shape := ⟨2, ![4096, 10]⟩
abbrev S1024x512 : Shape := ⟨2, ![1024, 512]⟩
abbrev S512 : Shape := ⟨1, ![512]⟩
abbrev S512x1024 : Shape := ⟨2, ![512, 1024]⟩
abbrev S1024 : Shape := ⟨1, ![1024]⟩
abbrev S1024x256 : Shape := ⟨2, ![1024, 256]⟩
abbrev S256 : Shape := ⟨1, ![256]⟩
abbrev S138x1024 : Shape := ⟨2, ![138, 1024]⟩
abbrev S512x512 : Shape := ⟨2, ![512, 512]⟩
abbrev S512x16 : Shape := ⟨2, ![512, 16]⟩
abbrev S16 : Shape := ⟨1, ![16]⟩
abbrev S4096x128 : Shape := ⟨2, ![4096, 128]⟩
abbrev S4096x512 : Shape := ⟨2, ![4096, 512]⟩
abbrev S1x512 : Shape := ⟨2, ![1, 512]⟩
abbrev S_ : Shape := ⟨0, ![]⟩
abbrev S1x1024 : Shape := ⟨2, ![1, 1024]⟩
abbrev S4096x256 : Shape := ⟨2, ![4096, 256]⟩
abbrev S1x256 : Shape := ⟨2, ![1, 256]⟩
abbrev S4096x138 : Shape := ⟨2, ![4096, 138]⟩
abbrev S4096x16 : Shape := ⟨2, ![4096, 16]⟩
abbrev S1x16 : Shape := ⟨2, ![1, 16]⟩
abbrev S4096 : Shape := ⟨1, ![4096]⟩
abbrev S4096x1 : Shape := ⟨2, ![4096, 1]⟩
abbrev S1024x1 : Shape := ⟨2, ![1024, 1]⟩

abbrev nBuf : Space → Nat
  | .hbm => 181
  | .vmem => 0
  | .smem => 0
  | _ => 0

abbrev hbmTy0_0 (i : Nat) : BufTy := match i % 128 with
  | 0 => ⟨S4096x1024, .f32⟩
  | 1 => ⟨S4096x10, .f32⟩
  | 2 => ⟨S1024x512, .f32⟩
  | 3 => ⟨S512, .f32⟩
  | 4 => ⟨S512x1024, .f32⟩
  | 5 => ⟨S1024, .f32⟩
  | 6 => ⟨S1024x256, .f32⟩
  | 7 => ⟨S256, .f32⟩
  | 8 => ⟨S138x1024, .f32⟩
  | 9 => ⟨S1024, .f32⟩
  | 10 => ⟨S1024x512, .f32⟩
  | 11 => ⟨S512, .f32⟩
  | 12 => ⟨S512x512, .f32⟩
  | 13 => ⟨S512, .f32⟩
  | 14 => ⟨S512x16, .f32⟩
  | 15 => ⟨S16, .f32⟩
  | 16 => ⟨S4096x128, .f32⟩
  | 17 => ⟨S16, .i32⟩
  | 18 => ⟨S4096x512, .f32⟩
  | 19 => ⟨S1x512, .f32⟩
  | 20 => ⟨S4096x512, .f32⟩
  | 21 => ⟨S4096x512, .f32⟩
  | 22 => ⟨S_, .f32⟩
  | 23 => ⟨S4096x512, .f32⟩
  | 24 => ⟨S4096x512, .f32⟩
  | 25 => ⟨S4096x1024, .f32⟩
  | 26 => ⟨S1x1024, .f32⟩
  | 27 => ⟨S4096x1024, .f32⟩
  | 28 => ⟨S4096x1024, .f32⟩
  | 29 => ⟨S_, .f32⟩
  | 30 => ⟨S4096x1024, .f32⟩
  | 31 => ⟨S4096x1024, .f32⟩
  | 32 => ⟨S4096x256, .f32⟩
  | 33 => ⟨S1x256, .f32⟩
  | 34 => ⟨S4096x256, .f32⟩
  | 35 => ⟨S4096x256, .f32⟩
  | 36 => ⟨S4096x128, .f32⟩
  | 37 => ⟨S4096x128, .f32⟩
  | 38 => ⟨S_, .f32⟩
  | 39 => ⟨S4096x128, .f32⟩
  | 40 => ⟨S4096x128, .f32⟩
  | 41 => ⟨S_, .f32⟩
  | 42 => ⟨S4096x128, .f32⟩
  | 43 => ⟨S4096x128, .f32⟩
  | 44 => ⟨S4096x128, .f32⟩
  | 45 => ⟨S4096x128, .f32⟩
  | 46 => ⟨S4096x128, .i1⟩
  | 47 => ⟨S4096x128, .f32⟩
  | 48 => ⟨S4096x128, .f32⟩
  | 49 => ⟨S4096x128, .f32⟩
  | 50 => ⟨S4096x128, .f32⟩
  | 51 => ⟨S4096x128, .f32⟩
  | 52 => ⟨S4096x128, .f32⟩
  | 53 => ⟨S4096x128, .f32⟩
  | 54 => ⟨S4096x128, .f32⟩
  | 55 => ⟨S4096x128, .f32⟩
  | 56 => ⟨S4096x128, .f32⟩
  | 57 => ⟨S4096x138, .f32⟩
  | 58 => ⟨S4096x1024, .f32⟩
  | 59 => ⟨S1x1024, .f32⟩
  | 60 => ⟨S4096x1024, .f32⟩
  | 61 => ⟨S4096x1024, .f32⟩
  | 62 => ⟨S_, .f32⟩
  | 63 => ⟨S4096x1024, .f32⟩
  | 64 => ⟨S4096x1024, .f32⟩
  | 65 => ⟨S4096x512, .f32⟩
  | 66 => ⟨S1x512, .f32⟩
  | 67 => ⟨S4096x512, .f32⟩
  | 68 => ⟨S4096x512, .f32⟩
  | 69 => ⟨S_, .f32⟩
  | 70 => ⟨S4096x512, .f32⟩
  | 71 => ⟨S4096x512, .f32⟩
  | 72 => ⟨S4096x512, .f32⟩
  | 73 => ⟨S1x512, .f32⟩
  | 74 => ⟨S4096x512, .f32⟩
  | 75 => ⟨S4096x512, .f32⟩
  | 76 => ⟨S4096x16, .f32⟩
  | 77 => ⟨S1x16, .f32⟩
  | 78 => ⟨S4096x16, .f32⟩
  | 79 => ⟨S4096x16, .f32⟩
  | 80 => ⟨S_, .f32⟩
  | 81 => ⟨S4096x16, .f32⟩
  | 82 => ⟨S4096x16, .f32⟩
  | 83 => ⟨S4096x16, .f32⟩
  | 84 => ⟨S4096x16, .i32⟩
  | 85 => ⟨S1x16, .i32⟩
  | 86 => ⟨S4096x16, .i32⟩
  | 87 => ⟨S4096x16, .i32⟩
  | 88 => ⟨S_, .i32⟩
  | 89 => ⟨S_, .i32⟩
  | 90 => ⟨S_, .i32⟩
  | 91 => ⟨S_, .i1⟩
  | 92 => ⟨S_, .i32⟩
  | 93 => ⟨S_, .i32⟩
  | 94 => ⟨S4096x16, .i32⟩
  | 95 => ⟨S4096x16, .i32⟩
  | 96 => ⟨S_, .i32⟩
  | 97 => ⟨S4096x16, .i32⟩
  | 98 => ⟨S4096x16, .i1⟩
  | 99 => ⟨S_, .i32⟩
  | 100 => ⟨S4096x16, .i32⟩
  | 101 => ⟨S4096x16, .i1⟩
  | 102 => ⟨S_, .i32⟩
  | 103 => ⟨S_, .i1⟩
  | 104 => ⟨S4096x16, .i1⟩
  | 105 => ⟨S4096x16, .i1⟩
  | 106 => ⟨S4096x16, .i1⟩
  | 107 => ⟨S4096x16, .i32⟩
  | 108 => ⟨S4096x16, .i32⟩
  | 109 => ⟨S4096x16, .i32⟩
  | 110 => ⟨S_, .i32⟩
  | 111 => ⟨S4096, .i32⟩
  | 112 => ⟨S_, .i32⟩
  | 113 => ⟨S_, .i32⟩
  | 114 => ⟨S_, .i32⟩
  | 115 => ⟨S_, .i1⟩
  | 116 => ⟨S_, .i32⟩
  | 117 => ⟨S_, .i32⟩
  | 118 => ⟨S4096, .i32⟩
  | 119 => ⟨S4096, .i32⟩
  | 120 => ⟨S_, .i32⟩
  | 121 => ⟨S4096, .i32⟩
  | 122 => ⟨S4096, .i1⟩
  | 123 => ⟨S_, .i32⟩
  | 124 => ⟨S4096, .i32⟩
  | 125 => ⟨S4096, .i1⟩
  | 126 => ⟨S_, .i32⟩
  | 127 => ⟨S_, .i1⟩
  | _ => ⟨S4096x1024, .f32⟩

abbrev hbmTy0_1 (i : Nat) : BufTy := match i % 128 with
  | 0 => ⟨S4096, .i1⟩
  | 1 => ⟨S4096, .i1⟩
  | 2 => ⟨S4096, .i1⟩
  | 3 => ⟨S4096, .i32⟩
  | 4 => ⟨S4096, .i32⟩
  | 5 => ⟨S4096, .i32⟩
  | 6 => ⟨S_, .f32⟩
  | 7 => ⟨S4096, .f32⟩
  | 8 => ⟨S_, .f32⟩
  | 9 => ⟨S1024, .f32⟩
  | 10 => ⟨S4096x1, .i32⟩
  | 11 => ⟨S1024, .f32⟩
  | 12 => ⟨S_, .f32⟩
  | 13 => ⟨S1024x512, .f32⟩
  | 14 => ⟨S4096x1, .i32⟩
  | 15 => ⟨S1024x512, .f32⟩
  | 16 => ⟨S_, .f32⟩
  | 17 => ⟨S1024, .f32⟩
  | 18 => ⟨S1024, .f32⟩
  | 19 => ⟨S1024x1, .f32⟩
  | 20 => ⟨S1024x512, .f32⟩
  | 21 => ⟨S1024x512, .f32⟩
  | 22 => ⟨S4096x512, .f32⟩
  | 23 => ⟨S_, .f32⟩
  | 24 => ⟨S4096, .f32⟩
  | 25 => ⟨S4096x1, .f32⟩
  | 26 => ⟨S1024x512, .f32⟩
  | 27 => ⟨S_, .f32⟩
  | 28 => ⟨S1024, .f32⟩
  | 29 => ⟨S1x1024, .f32⟩
  | 30 => ⟨S4096x1024, .f32⟩
  | 31 => ⟨S4096x1024, .f32⟩
  | 32 => ⟨S4096x1024, .f32⟩
  | 33 => ⟨S_, .f32⟩
  | 34 => ⟨S4096x512, .f32⟩
  | 35 => ⟨S4096x512, .f32⟩
  | 36 => ⟨S512x1024, .f32⟩
  | 37 => ⟨S4096x1024, .f32⟩
  | 38 => ⟨S4096x1024, .f32⟩
  | 39 => ⟨S_, .f32⟩
  | 40 => ⟨S4096x1024, .f32⟩
  | 41 => ⟨S4096x1024, .f32⟩
  | 42 => ⟨S_, .f32⟩
  | 43 => ⟨S4096x1024, .f32⟩
  | 44 => ⟨S4096x1024, .f32⟩
  | 45 => ⟨S_, .f32⟩
  | 46 => ⟨S4096x1024, .f32⟩
  | 47 => ⟨S4096x1024, .f32⟩
  | 48 => ⟨S_, .f32⟩
  | 49 => ⟨S4096, .f32⟩
  | 50 => ⟨S4096x1, .f32⟩
  | 51 => ⟨S4096x1024, .f32⟩
  | 52 => ⟨S4096x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_c : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_call0_cst : Ref sig .tc := ⟨.hbm, 22, rfl⟩
abbrev main_call0_v0 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_call1_cst : Ref sig .tc := ⟨.hbm, 29, rfl⟩
abbrev main_call1_v0 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_cst : Ref sig .tc := ⟨.hbm, 38, rfl⟩
abbrev main_v16 : Ref sig .tc := ⟨.hbm, 39, rfl⟩
abbrev main_v17 : Ref sig .tc := ⟨.hbm, 40, rfl⟩
abbrev main_call2_cst : Ref sig .tc := ⟨.hbm, 41, rfl⟩
abbrev main_call2_v0 : Ref sig .tc := ⟨.hbm, 42, rfl⟩
abbrev main_call2_v1 : Ref sig .tc := ⟨.hbm, 43, rfl⟩
abbrev main_call2_v2 : Ref sig .tc := ⟨.hbm, 44, rfl⟩
abbrev main_call2_v3 : Ref sig .tc := ⟨.hbm, 45, rfl⟩
abbrev main_call2_v4 : Ref sig .tc := ⟨.hbm, 46, rfl⟩
abbrev main_call2_v5 : Ref sig .tc := ⟨.hbm, 47, rfl⟩
abbrev main_call2_v6 : Ref sig .tc := ⟨.hbm, 48, rfl⟩
abbrev main_call2_v7 : Ref sig .tc := ⟨.hbm, 49, rfl⟩
abbrev main_call2_v8 : Ref sig .tc := ⟨.hbm, 50, rfl⟩
abbrev main_call2_v9 : Ref sig .tc := ⟨.hbm, 51, rfl⟩
abbrev main_call2_v10 : Ref sig .tc := ⟨.hbm, 52, rfl⟩
abbrev main_call2_v11 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_call3_cst : Ref sig .tc := ⟨.hbm, 62, rfl⟩
abbrev main_call3_v0 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_call4_cst : Ref sig .tc := ⟨.hbm, 69, rfl⟩
abbrev main_call4_v0 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_cst_0 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_c_1 : Ref sig .tc := ⟨.hbm, 88, rfl⟩
abbrev main_call5_v0 : Ref sig .tc := ⟨.hbm, 89, rfl⟩
abbrev main_call5_c : Ref sig .tc := ⟨.hbm, 90, rfl⟩
abbrev main_call5_v1 : Ref sig .tc := ⟨.hbm, 91, rfl⟩
abbrev main_call5_c_0 : Ref sig .tc := ⟨.hbm, 92, rfl⟩
abbrev main_call5_v2 : Ref sig .tc := ⟨.hbm, 93, rfl⟩
abbrev main_call5_v3 : Ref sig .tc := ⟨.hbm, 94, rfl⟩
abbrev main_call5_v4 : Ref sig .tc := ⟨.hbm, 95, rfl⟩
abbrev main_call5_c_1 : Ref sig .tc := ⟨.hbm, 96, rfl⟩
abbrev main_call5_v5 : Ref sig .tc := ⟨.hbm, 97, rfl⟩
abbrev main_call5_v6 : Ref sig .tc := ⟨.hbm, 98, rfl⟩
abbrev main_call5_c_2 : Ref sig .tc := ⟨.hbm, 99, rfl⟩
abbrev main_call5_v7 : Ref sig .tc := ⟨.hbm, 100, rfl⟩
abbrev main_call5_v8 : Ref sig .tc := ⟨.hbm, 101, rfl⟩
abbrev main_call5_c_3 : Ref sig .tc := ⟨.hbm, 102, rfl⟩
abbrev main_call5_v9 : Ref sig .tc := ⟨.hbm, 103, rfl⟩
abbrev main_call5_v10 : Ref sig .tc := ⟨.hbm, 104, rfl⟩
abbrev main_call5_v11 : Ref sig .tc := ⟨.hbm, 105, rfl⟩
abbrev main_call5_v12 : Ref sig .tc := ⟨.hbm, 106, rfl⟩
abbrev main_call5_v13 : Ref sig .tc := ⟨.hbm, 107, rfl⟩
abbrev main_call5_v14 : Ref sig .tc := ⟨.hbm, 108, rfl⟩
abbrev main_v47 : Ref sig .tc := ⟨.hbm, 109, rfl⟩
abbrev main_c_2 : Ref sig .tc := ⟨.hbm, 110, rfl⟩
abbrev main_v48 : Ref sig .tc := ⟨.hbm, 111, rfl⟩
abbrev main_c_3 : Ref sig .tc := ⟨.hbm, 112, rfl⟩
abbrev main_call6_v0 : Ref sig .tc := ⟨.hbm, 113, rfl⟩
abbrev main_call6_c : Ref sig .tc := ⟨.hbm, 114, rfl⟩
abbrev main_call6_v1 : Ref sig .tc := ⟨.hbm, 115, rfl⟩
abbrev main_call6_c_0 : Ref sig .tc := ⟨.hbm, 116, rfl⟩
abbrev main_call6_v2 : Ref sig .tc := ⟨.hbm, 117, rfl⟩
abbrev main_call6_v3 : Ref sig .tc := ⟨.hbm, 118, rfl⟩
abbrev main_call6_v4 : Ref sig .tc := ⟨.hbm, 119, rfl⟩
abbrev main_call6_c_1 : Ref sig .tc := ⟨.hbm, 120, rfl⟩
abbrev main_call6_v5 : Ref sig .tc := ⟨.hbm, 121, rfl⟩
abbrev main_call6_v6 : Ref sig .tc := ⟨.hbm, 122, rfl⟩
abbrev main_call6_c_2 : Ref sig .tc := ⟨.hbm, 123, rfl⟩
abbrev main_call6_v7 : Ref sig .tc := ⟨.hbm, 124, rfl⟩
abbrev main_call6_v8 : Ref sig .tc := ⟨.hbm, 125, rfl⟩
abbrev main_call6_c_3 : Ref sig .tc := ⟨.hbm, 126, rfl⟩
abbrev main_call6_v9 : Ref sig .tc := ⟨.hbm, 127, rfl⟩
abbrev main_call6_v10 : Ref sig .tc := ⟨.hbm, 128, rfl⟩
abbrev main_call6_v11 : Ref sig .tc := ⟨.hbm, 129, rfl⟩
abbrev main_call6_v12 : Ref sig .tc := ⟨.hbm, 130, rfl⟩
abbrev main_call6_v13 : Ref sig .tc := ⟨.hbm, 131, rfl⟩
abbrev main_call6_v14 : Ref sig .tc := ⟨.hbm, 132, rfl⟩
abbrev main_v49 : Ref sig .tc := ⟨.hbm, 133, rfl⟩
abbrev main_cst_4 : Ref sig .tc := ⟨.hbm, 134, rfl⟩
abbrev main_v50 : Ref sig .tc := ⟨.hbm, 135, rfl⟩
abbrev main_cst_5 : Ref sig .tc := ⟨.hbm, 136, rfl⟩
abbrev main_v51 : Ref sig .tc := ⟨.hbm, 137, rfl⟩
abbrev main_v52 : Ref sig .tc := ⟨.hbm, 138, rfl⟩
abbrev main_v53 : Ref sig .tc := ⟨.hbm, 139, rfl⟩
abbrev main_cst_6 : Ref sig .tc := ⟨.hbm, 140, rfl⟩
abbrev main_v54 : Ref sig .tc := ⟨.hbm, 141, rfl⟩
abbrev main_v55 : Ref sig .tc := ⟨.hbm, 142, rfl⟩
abbrev main_v56 : Ref sig .tc := ⟨.hbm, 143, rfl⟩
abbrev main_cst_7 : Ref sig .tc := ⟨.hbm, 144, rfl⟩
abbrev main_v57 : Ref sig .tc := ⟨.hbm, 145, rfl⟩
abbrev main_v58 : Ref sig .tc := ⟨.hbm, 146, rfl⟩
abbrev main_v59 : Ref sig .tc := ⟨.hbm, 147, rfl⟩
abbrev main_v60 : Ref sig .tc := ⟨.hbm, 148, rfl⟩
abbrev main_v61 : Ref sig .tc := ⟨.hbm, 149, rfl⟩
abbrev main_v62 : Ref sig .tc := ⟨.hbm, 150, rfl⟩
abbrev main_cst_8 : Ref sig .tc := ⟨.hbm, 151, rfl⟩
abbrev main_v63 : Ref sig .tc := ⟨.hbm, 152, rfl⟩
abbrev main_v64 : Ref sig .tc := ⟨.hbm, 153, rfl⟩
abbrev main_v65 : Ref sig .tc := ⟨.hbm, 154, rfl⟩
abbrev main_cst_9 : Ref sig .tc := ⟨.hbm, 155, rfl⟩
abbrev main_v66 : Ref sig .tc := ⟨.hbm, 156, rfl⟩
abbrev main_v67 : Ref sig .tc := ⟨.hbm, 157, rfl⟩
abbrev main_v68 : Ref sig .tc := ⟨.hbm, 158, rfl⟩
abbrev main_v69 : Ref sig .tc := ⟨.hbm, 159, rfl⟩
abbrev main_v70 : Ref sig .tc := ⟨.hbm, 160, rfl⟩
abbrev main_cst_10 : Ref sig .tc := ⟨.hbm, 161, rfl⟩
abbrev main_v71 : Ref sig .tc := ⟨.hbm, 162, rfl⟩
abbrev main_v72 : Ref sig .tc := ⟨.hbm, 163, rfl⟩
abbrev main_v73 : Ref sig .tc := ⟨.hbm, 164, rfl⟩
abbrev main_v74 : Ref sig .tc := ⟨.hbm, 165, rfl⟩
abbrev main_v75 : Ref sig .tc := ⟨.hbm, 166, rfl⟩
abbrev main_cst_11 : Ref sig .tc := ⟨.hbm, 167, rfl⟩
abbrev main_v76 : Ref sig .tc := ⟨.hbm, 168, rfl⟩
abbrev main_v77 : Ref sig .tc := ⟨.hbm, 169, rfl⟩
abbrev main_cst_12 : Ref sig .tc := ⟨.hbm, 170, rfl⟩
abbrev main_v78 : Ref sig .tc := ⟨.hbm, 171, rfl⟩
abbrev main_v79 : Ref sig .tc := ⟨.hbm, 172, rfl⟩
abbrev main_cst_13 : Ref sig .tc := ⟨.hbm, 173, rfl⟩
abbrev main_v80 : Ref sig .tc := ⟨.hbm, 174, rfl⟩
abbrev main_v81 : Ref sig .tc := ⟨.hbm, 175, rfl⟩
abbrev main_cst_14 : Ref sig .tc := ⟨.hbm, 176, rfl⟩
abbrev main_v82 : Ref sig .tc := ⟨.hbm, 177, rfl⟩
abbrev main_v83 : Ref sig .tc := ⟨.hbm, 178, rfl⟩
abbrev main_v84 : Ref sig .tc := ⟨.hbm, 179, rfl⟩
abbrev main_v85 : Ref sig .tc := ⟨.hbm, 180, rfl⟩

abbrev nD : Nat := 1
abbrev τ : Topo := Topo.v7x

variable {F : FTy → Type} [FloatOps F]
-- ==== Proof.Outs.lean ====
/-
  What the first kernel body leaves in its three output blocks at a grid point, as terms of its payloads over the
  blocks it read: the output tile; the bucket sums and counts, zeroed first at the first point, added to otherwise.
-/
module

public import proofs.«01_k».proof.Proof.Gen.KernelIdeal.Frame
public import Idealize.ShloMosaic.Lib.Pipeline.Value

@[expose] public section

set_option maxRecDepth 16384

noncomputable section

namespace Cert.KernelIdeal.Val

open Cert.KernelIdeal Cert.KernelIdeal.Gen
open Idealize.ShloMosaic Idealize.ShloMosaic.TcCoe Idealize.SL.Sem

variable {F : FTy → Type} [FloatOps F]

/-- The zero offsets of a rank-2 rectangle. -/
theorem hz2 : (![0, 0] : Fin 2 → Nat) = fun _ => 0 := funext fun a => by fin_cases a <;> rfl

/-- The output tile from the blocks of a point. -/
def tile (x0 : Vec F S512x1024 .f32) (x1 : Vec F S512x10 .f32) (x2 : Vec F S512x128 .f32) (x3 : Vec F S1024x512 .f32) (x4 : Vec F S1x512 .f32) (x5 : Vec F S512x1024 .f32) (x6 : Vec F S1x1024 .f32) (x7 : Vec F S1024x256 .f32) (x8 : Vec F S1x256 .f32) (x9 : Vec F S128x1024 .f32) (x10 : Vec F S10x1024 .f32) (x11 : Vec F S1x1024 .f32) (x12 : Vec F S1024x512 .f32) (x13 : Vec F S1x512 .f32) (x14 : Vec F S512x512 .f32) (x15 : Vec F S1x512 .f32) : Vec F S512x512 .f32 :=
  k0_pay7 (k0_pay3 x0 x3 x4 x5 x6 x7 x8) (k0_pay5 x0 x3 x4 x5 x6 x7 x8) (k0_pay6 x0 x3 x4 x5 x6 x7 x8) x2 x9 x1 x10 x11 x12 x13 x14 x15

/-- The first point leaves this in the output tile' block. -/
theorem out_A_19 (c : Dev nD) (i : grid0.Coords) (arg1 : Memref sig .tc .vmem S512x1024 .f32) (harg1 : arg1.IsWhole) (arg2 : Memref sig .tc .vmem S512x10 .f32) (harg2 : arg2.IsWhole) (arg3 : Memref sig .tc .vmem S512x128 .f32) (harg3 : arg3.IsWhole) (arg4 : Memref sig .tc .vmem S1024x512 .f32) (harg4 : arg4.IsWhole) (arg5 : Memref sig .tc .vmem S1x512 .f32) (harg5 : arg5.IsWhole) (arg6 : Memref sig .tc .vmem S512x1024 .f32) (harg6 : arg6.IsWhole) (arg7 : Memref sig .tc .vmem S1x1024 .f32) (harg7 : arg7.IsWhole) (arg8 : Memref sig .tc .vmem S1024x256 .f32) (harg8 : arg8.IsWhole) (arg9 : Memref sig .tc .vmem S1x256 .f32) (harg9 : arg9.IsWhole) (arg10 : Memref sig .tc .vmem S128x1024 .f32) (harg10 : arg10.IsWhole) (arg11 : Memref sig .tc .vmem S10x1024 .f32) (harg11 : arg11.IsWhole) (arg12 : Memref sig .tc .vmem S1x1024 .f32) (harg12 : arg12.IsWhole) (arg13 : Memref sig .tc .vmem S1024x512 .f32) (harg13 : arg13.IsWhole) (arg14 : Memref sig .tc .vmem S1x512 .f32) (harg14 : arg14.IsWhole) (arg15 : Memref sig .tc .vmem S512x512 .f32) (harg15 : arg15.IsWhole) (arg16 : Memref sig .tc .vmem S1x512 .f32) (harg16 : arg16.IsWhole) (arg17 : Memref sig .tc .vmem S512x16 .f32) (harg17 : arg17.IsWhole) (arg18 : Memref sig .tc .vmem S1x16 .f32) (harg18 : arg18.IsWhole) (arg19 : Memref sig .tc .vmem S1x16 .i32) (harg19 : arg19.IsWhole) (arg20 : Memref sig .tc .vmem S512x512 .f32) (harg20 : arg20.IsWhole) (arg21 : Memref sig .tc .vmem S1024x512 .f32) (harg21 : arg21.IsWhole) (arg22 : Memref sig .tc .vmem S1024x1 .f32) (harg22 : arg22.IsWhole) (hc0 : cond0_0 i)
    (x0 : Vec F S512x1024 .f32) (x1 : Vec F S512x10 .f32) (x2 : Vec F S512x128 .f32) (x3 : Vec F S1024x512 .f32) (x4 : Vec F S1x512 .f32) (x5 : Vec F S512x1024 .f32) (x6 : Vec F S1x1024 .f32) (x7 : Vec F S1024x256 .f32) (x8 : Vec F S1x256 .f32) (x9 : Vec F S128x1024 .f32) (x10 : Vec F S10x1024 .f32) (x11 : Vec F S1x1024 .f32) (x12 : Vec F S1024x512 .f32) (x13 : Vec F S1x512 .f32) (x14 : Vec F S512x512 .f32) (x15 : Vec F S1x512 .f32) (x16 : Vec F S512x16 .f32) (x17 : Vec F S1x16 .f32) (x18 : Vec F S1x16 .i32) :
    out0_A_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15 x16 x17 x18 = (tile x0 x1 x2 x3 x4 x5 x6 x7 x8 x9 x10 x11 x12 x13 x14 x15) := by
  unfold out0_A_19
  rw [View.read_writes_eq_canon _ _ _ (cover0_A_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15 x16 x17 x18)]
  unfold kernelRun0_A
  dsimp only
  sl_unfold_words
  rw [View.canon_unit_zero (S := S512x512) hz2]
  unfold tile
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, View.ld_unit_zero (S := S512x1024) hz2, View.ld_unit_zero (S := S512x10) hz2, View.ld_unit_zero (S := S512x128) hz2, View.ld_unit_zero (S := S1024x512) hz2, View.ld_unit_zero (S := S1x512) hz2, View.ld_unit_zero (S := S1x1024) hz2, View.ld_unit_zero (S := S1024x256) hz2, View.ld_unit_zero (S := S1x256) hz2, View.ld_unit_zero (S := S128x1024) hz2, View.ld_unit_zero (S := S10x1024) hz2, View.ld_unit_zero (S := S512x512) hz2, View.ld_unit_zero (S := S512x16) hz2, View.ld_unit_zero (S := S1x16) hz2, View.ld_unit_zero (S := S1024x1) hz2]

/-- The first point leaves this in the bucket sums' block. -/
theorem out_A_20 (c : Dev nD) (i : grid0.Coords) (arg1 : Memref sig .tc .vmem S512x1024 .f32) (harg1 : arg1.IsWhole) (arg2 : Memref sig .tc .vmem S512x10 .f32) (harg2 : arg2.IsWhole) (arg3 : Memref sig .tc .vmem S512x128 .f32) (harg3 : arg3.IsWhole) (arg4 : Memref sig .tc .vmem S1024x512 .f32) (harg4 : arg4.IsWhole) (arg5 : Memref sig .tc .vmem S1x512 .f32) (harg5 : arg5.IsWhole) (arg6 : Memref sig .tc .vmem S512x1024 .f32) (harg6 : arg6.IsWhole) (arg7 : Memref sig .tc .vmem S1x1024 .f32) (harg7 : arg7.IsWhole) (arg8 : Memref sig .tc .vmem S1024x256 .f32) (harg8 : arg8.IsWhole) (arg9 : Memref sig .tc .vmem S1x256 .f32) (harg9 : arg9.IsWhole) (arg10 : Memref sig .tc .vmem S128x1024 .f32) (harg10 : arg10.IsWhole) (arg11 : Memref sig .tc .vmem S10x1024 .f32) (harg11 : arg11.IsWhole) (arg12 : Memref sig .tc .vmem S1x1024 .f32) (harg12 : arg12.IsWhole) (arg13 : Memref sig .tc .vmem S1024x512 .f32) (harg13 : arg13.IsWhole) (arg14 : Memref sig .tc .vmem S1x512 .f32) (harg14 : arg14.IsWhole) (arg15 : Memref sig .tc .vmem S512x512 .f32) (harg15 : arg15.IsWhole) (arg16 : Memref sig .tc .vmem S1x512 .f32) (harg16 : arg16.IsWhole) (arg17 : Memref sig .tc .vmem S512x16 .f32) (harg17 : arg17.IsWhole) (arg18 : Memref sig .tc .vmem S1x16 .f32) (harg18 : arg18.IsWhole) (arg19 : Memref sig .tc .vmem S1x16 .i32) (harg19 : arg19.IsWhole) (arg20 : Memref sig .tc .vmem S512x512 .f32) (harg20 : arg20.IsWhole) (arg21 : Memref sig .tc .vmem S1024x512 .f32) (harg21 : arg21.IsWhole) (arg22 : Memref sig .tc .vmem S1024x1 .f32) (harg22 : arg22.IsWhole) (hc0 : cond0_0 i)
    (x0 : Vec F S512x1024 .f32) (x1 : Vec F S512x10 .f32) (x2 : Vec F S512x128 .f32) (x3 : Vec F S1024x512 .f32) (x4 : Vec F S1x512 .f32) (x5 : Vec F S512x1024 .f32) (x6 : Vec F S1x1024 .f32) (x7 : Vec F S1024x256 .f32) (x8 : Vec F S1x256 .f32) (x9 : Vec F S128x1024 .f32) (x10 : Vec F S10x1024 .f32) (x11 : Vec F S1x1024 .f32) (x12 : Vec F S1024x512 .f32) (x13 : Vec F S1x512 .f32) (x14 : Vec F S512x512 .f32) (x15 : Vec F S1x512 .f32) (x16 : Vec F S512x16 .f32) (x17 : Vec F S1x16 .f32) (x18 : Vec F S1x16 .i32) :
    out0_A_20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15 x16 x17 x18 = k0_pay12 (tile x0 x1 x2 x3 x4 x5 x6 x7 x8 x9 x10 x11 x12 x13 x14 x15) x16 x17 x18 k0_pay10 := by
  unfold out0_A_20
  rw [View.read_writes_eq_canon _ _ _ (cover0_A_20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15 x16 x17 x18)]
  unfold kernelRun0_A
  dsimp only
  sl_unfold_words
  rw [View.canon_cons_unit_zero (S := S1024x512) hz2, View.readCov_unit_zero (S := S1024x512) _ hz2]
  unfold tile
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, View.ld_unit_zero (S := S512x1024) hz2, View.ld_unit_zero (S := S512x10) hz2, View.ld_unit_zero (S := S512x128) hz2, View.ld_unit_zero (S := S1024x512) hz2, View.ld_unit_zero (S := S1x512) hz2, View.ld_unit_zero (S := S1x1024) hz2, View.ld_unit_zero (S := S1024x256) hz2, View.ld_unit_zero (S := S1x256) hz2, View.ld_unit_zero (S := S128x1024) hz2, View.ld_unit_zero (S := S10x1024) hz2, View.ld_unit_zero (S := S512x512) hz2, View.ld_unit_zero (S := S512x16) hz2, View.ld_unit_zero (S := S1x16) hz2, View.ld_unit_zero (S := S1024x1) hz2]

/-- The first point leaves this in the bucket counts' block. -/
theorem out_A_21 (c : Dev nD) (i : grid0.Coords) (arg1 : Memref sig .tc .vmem S512x1024 .f32) (harg1 : arg1.IsWhole) (arg2 : Memref sig .tc .vmem S512x10 .f32) (harg2 : arg2.IsWhole) (arg3 : Memref sig .tc .vmem S512x128 .f32) (harg3 : arg3.IsWhole) (arg4 : Memref sig .tc .vmem S1024x512 .f32) (harg4 : arg4.IsWhole) (arg5 : Memref sig .tc .vmem S1x512 .f32) (harg5 : arg5.IsWhole) (arg6 : Memref sig .tc .vmem S512x1024 .f32) (harg6 : arg6.IsWhole) (arg7 : Memref sig .tc .vmem S1x1024 .f32) (harg7 : arg7.IsWhole) (arg8 : Memref sig .tc .vmem S1024x256 .f32) (harg8 : arg8.IsWhole) (arg9 : Memref sig .tc .vmem S1x256 .f32) (harg9 : arg9.IsWhole) (arg10 : Memref sig .tc .vmem S128x1024 .f32) (harg10 : arg10.IsWhole) (arg11 : Memref sig .tc .vmem S10x1024 .f32) (harg11 : arg11.IsWhole) (arg12 : Memref sig .tc .vmem S1x1024 .f32) (harg12 : arg12.IsWhole) (arg13 : Memref sig .tc .vmem S1024x512 .f32) (harg13 : arg13.IsWhole) (arg14 : Memref sig .tc .vmem S1x512 .f32) (harg14 : arg14.IsWhole) (arg15 : Memref sig .tc .vmem S512x512 .f32) (harg15 : arg15.IsWhole) (arg16 : Memref sig .tc .vmem S1x512 .f32) (harg16 : arg16.IsWhole) (arg17 : Memref sig .tc .vmem S512x16 .f32) (harg17 : arg17.IsWhole) (arg18 : Memref sig .tc .vmem S1x16 .f32) (harg18 : arg18.IsWhole) (arg19 : Memref sig .tc .vmem S1x16 .i32) (harg19 : arg19.IsWhole) (arg20 : Memref sig .tc .vmem S512x512 .f32) (harg20 : arg20.IsWhole) (arg21 : Memref sig .tc .vmem S1024x512 .f32) (harg21 : arg21.IsWhole) (arg22 : Memref sig .tc .vmem S1024x1 .f32) (harg22 : arg22.IsWhole) (hc0 : cond0_0 i)
    (x0 : Vec F S512x1024 .f32) (x1 : Vec F S512x10 .f32) (x2 : Vec F S512x128 .f32) (x3 : Vec F S1024x512 .f32) (x4 : Vec F S1x512 .f32) (x5 : Vec F S512x1024 .f32) (x6 : Vec F S1x1024 .f32) (x7 : Vec F S1024x256 .f32) (x8 : Vec F S1x256 .f32) (x9 : Vec F S128x1024 .f32) (x10 : Vec F S10x1024 .f32) (x11 : Vec F S1x1024 .f32) (x12 : Vec F S1024x512 .f32) (x13 : Vec F S1x512 .f32) (x14 : Vec F S512x512 .f32) (x15 : Vec F S1x512 .f32) (x16 : Vec F S512x16 .f32) (x17 : Vec F S1x16 .f32) (x18 : Vec F S1x16 .i32) :
    out0_A_21 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15 x16 x17 x18 = k0_pay1 (k0_pay9 (tile x0 x1 x2 x3 x4 x5 x6 x7 x8 x9 x10 x11 x12 x13 x14 x15) x16 x17 x18) (k0_pay13 k0_pay11) := by
  unfold out0_A_21
  rw [View.read_writes_eq_canon _ _ _ (cover0_A_21 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15 x16 x17 x18)]
  unfold kernelRun0_A
  dsimp only
  sl_unfold_words
  rw [View.canon_cons_unit_zero (S := S1024x1) hz2, View.readCov_unit_zero (S := S1024x1) _ hz2]
  unfold tile
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, View.ld_unit_zero (S := S512x1024) hz2, View.ld_unit_zero (S := S512x10) hz2, View.ld_unit_zero (S := S512x128) hz2, View.ld_unit_zero (S := S1024x512) hz2, View.ld_unit_zero (S := S1x512) hz2, View.ld_unit_zero (S := S1x1024) hz2, View.ld_unit_zero (S := S1024x256) hz2, View.ld_unit_zero (S := S1x256) hz2, View.ld_unit_zero (S := S128x1024) hz2, View.ld_unit_zero (S := S10x1024) hz2, View.ld_unit_zero (S := S512x512) hz2, View.ld_unit_zero (S := S512x16) hz2, View.ld_unit_zero (S := S1x16) hz2, View.ld_unit_zero (S := S1024x1) hz2]

/-- A later point leaves this in the output tile' block. -/
theorem out_B_19 (c : Dev nD) (i : grid0.Coords) (arg1 : Memref sig .tc .vmem S512x1024 .f32) (harg1 : arg1.IsWhole) (arg2 : Memref sig .tc .vmem S512x10 .f32) (harg2 : arg2.IsWhole) (arg3 : Memref sig .tc .vmem S512x128 .f32) (harg3 : arg3.IsWhole) (arg4 : Memref sig .tc .vmem S1024x512 .f32) (harg4 : arg4.IsWhole) (arg5 : Memref sig .tc .vmem S1x512 .f32) (harg5 : arg5.IsWhole) (arg6 : Memref sig .tc .vmem S512x1024 .f32) (harg6 : arg6.IsWhole) (arg7 : Memref sig .tc .vmem S1x1024 .f32) (harg7 : arg7.IsWhole) (arg8 : Memref sig .tc .vmem S1024x256 .f32) (harg8 : arg8.IsWhole) (arg9 : Memref sig .tc .vmem S1x256 .f32) (harg9 : arg9.IsWhole) (arg10 : Memref sig .tc .vmem S128x1024 .f32) (harg10 : arg10.IsWhole) (arg11 : Memref sig .tc .vmem S10x1024 .f32) (harg11 : arg11.IsWhole) (arg12 : Memref sig .tc .vmem S1x1024 .f32) (harg12 : arg12.IsWhole) (arg13 : Memref sig .tc .vmem S1024x512 .f32) (harg13 : arg13.IsWhole) (arg14 : Memref sig .tc .vmem S1x512 .f32) (harg14 : arg14.IsWhole) (arg15 : Memref sig .tc .vmem S512x512 .f32) (harg15 : arg15.IsWhole) (arg16 : Memref sig .tc .vmem S1x512 .f32) (harg16 : arg16.IsWhole) (arg17 : Memref sig .tc .vmem S512x16 .f32) (harg17 : arg17.IsWhole) (arg18 : Memref sig .tc .vmem S1x16 .f32) (harg18 : arg18.IsWhole) (arg19 : Memref sig .tc .vmem S1x16 .i32) (harg19 : arg19.IsWhole) (arg20 : Memref sig .tc .vmem S512x512 .f32) (harg20 : arg20.IsWhole) (arg21 : Memref sig .tc .vmem S1024x512 .f32) (harg21 : arg21.IsWhole) (arg22 : Memref sig .tc .vmem S1024x1 .f32) (harg22 : arg22.IsWhole) (hc0 : ¬cond0_0 i)
    (x0 : Vec F S512x1024 .f32) (x1 : Vec F S512x10 .f32) (x2 : Vec F S512x128 .f32) (x3 : Vec F S1024x512 .f32) (x4 : Vec F S1x512 .f32) (x5 : Vec F S512x1024 .f32) (x6 : Vec F S1x1024 .f32) (x7 : Vec F S1024x256 .f32) (x8 : Vec F S1x256 .f32) (x9 : Vec F S128x1024 .f32) (x10 : Vec F S10x1024 .f32) (x11 : Vec F S1x1024 .f32) (x12 : Vec F S1024x512 .f32) (x13 : Vec F S1x512 .f32) (x14 : Vec F S512x512 .f32) (x15 : Vec F S1x512 .f32) (x16 : Vec F S512x16 .f32) (x17 : Vec F S1x16 .f32) (x18 : Vec F S1x16 .i32) (xo20 : Vec F S1024x512 .f32) (xo21 : Vec F S1024x1 .f32) :
    out0_B_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15 x16 x17 x18 xo20 xo21 = (tile x0 x1 x2 x3 x4 x5 x6 x7 x8 x9 x10 x11 x12 x13 x14 x15) := by
  unfold out0_B_19
  rw [View.read_writes_eq_canon _ _ _ (cover0_B_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15 x16 x17 x18 xo20 xo21)]
  unfold kernelRun0_B
  dsimp only
  sl_unfold_words
  rw [View.canon_unit_zero (S := S512x512) hz2]
  unfold tile
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, View.ld_unit_zero (S := S512x1024) hz2, View.ld_unit_zero (S := S512x10) hz2, View.ld_unit_zero (S := S512x128) hz2, View.ld_unit_zero (S := S1024x512) hz2, View.ld_unit_zero (S := S1x512) hz2, View.ld_unit_zero (S := S1x1024) hz2, View.ld_unit_zero (S := S1024x256) hz2, View.ld_unit_zero (S := S1x256) hz2, View.ld_unit_zero (S := S128x1024) hz2, View.ld_unit_zero (S := S10x1024) hz2, View.ld_unit_zero (S := S512x512) hz2, View.ld_unit_zero (S := S512x16) hz2, View.ld_unit_zero (S := S1x16) hz2, View.ld_unit_zero (S := S1024x1) hz2]

/-- A later point leaves this in the bucket sums' block. -/
theorem out_B_20 (c : Dev nD) (i : grid0.Coords) (arg1 : Memref sig .tc .vmem S512x1024 .f32) (harg1 : arg1.IsWhole) (arg2 : Memref sig .tc .vmem S512x10 .f32) (harg2 : arg2.IsWhole) (arg3 : Memref sig .tc .vmem S512x128 .f32) (harg3 : arg3.IsWhole) (arg4 : Memref sig .tc .vmem S1024x512 .f32) (harg4 : arg4.IsWhole) (arg5 : Memref sig .tc .vmem S1x512 .f32) (harg5 : arg5.IsWhole) (arg6 : Memref sig .tc .vmem S512x1024 .f32) (harg6 : arg6.IsWhole) (arg7 : Memref sig .tc .vmem S1x1024 .f32) (harg7 : arg7.IsWhole) (arg8 : Memref sig .tc .vmem S1024x256 .f32) (harg8 : arg8.IsWhole) (arg9 : Memref sig .tc .vmem S1x256 .f32) (harg9 : arg9.IsWhole) (arg10 : Memref sig .tc .vmem S128x1024 .f32) (harg10 : arg10.IsWhole) (arg11 : Memref sig .tc .vmem S10x1024 .f32) (harg11 : arg11.IsWhole) (arg12 : Memref sig .tc .vmem S1x1024 .f32) (harg12 : arg12.IsWhole) (arg13 : Memref sig .tc .vmem S1024x512 .f32) (harg13 : arg13.IsWhole) (arg14 : Memref sig .tc .vmem S1x512 .f32) (harg14 : arg14.IsWhole) (arg15 : Memref sig .tc .vmem S512x512 .f32) (harg15 : arg15.IsWhole) (arg16 : Memref sig .tc .vmem S1x512 .f32) (harg16 : arg16.IsWhole) (arg17 : Memref sig .tc .vmem S512x16 .f32) (harg17 : arg17.IsWhole) (arg18 : Memref sig .tc .vmem S1x16 .f32) (harg18 : arg18.IsWhole) (arg19 : Memref sig .tc .vmem S1x16 .i32) (harg19 : arg19.IsWhole) (arg20 : Memref sig .tc .vmem S512x512 .f32) (harg20 : arg20.IsWhole) (arg21 : Memref sig .tc .vmem S1024x512 .f32) (harg21 : arg21.IsWhole) (arg22 : Memref sig .tc .vmem S1024x1 .f32) (harg22 : arg22.IsWhole) (hc0 : ¬cond0_0 i)
    (x0 : Vec F S512x1024 .f32) (x1 : Vec F S512x10 .f32) (x2 : Vec F S512x128 .f32) (x3 : Vec F S1024x512 .f32) (x4 : Vec F S1x512 .f32) (x5 : Vec F S512x1024 .f32) (x6 : Vec F S1x1024 .f32) (x7 : Vec F S1024x256 .f32) (x8 : Vec F S1x256 .f32) (x9 : Vec F S128x1024 .f32) (x10 : Vec F S10x1024 .f32) (x11 : Vec F S1x1024 .f32) (x12 : Vec F S1024x512 .f32) (x13 : Vec F S1x512 .f32) (x14 : Vec F S512x512 .f32) (x15 : Vec F S1x512 .f32) (x16 : Vec F S512x16 .f32) (x17 : Vec F S1x16 .f32) (x18 : Vec F S1x16 .i32) (xo20 : Vec F S1024x512 .f32) (xo21 : Vec F S1024x1 .f32) :
    out0_B_20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15 x16 x17 x18 xo20 xo21 = k0_pay12 (tile x0 x1 x2 x3 x4 x5 x6 x7 x8 x9 x10 x11 x12 x13 x14 x15) x16 x17 x18 xo20 := by
  unfold out0_B_20
  rw [View.read_writes_eq_canon _ _ _ (cover0_B_20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15 x16 x17 x18 xo20 xo21)]
  unfold kernelRun0_B
  dsimp only
  sl_unfold_words
  rw [View.canon_unit_zero (S := S1024x512) hz2]
  unfold tile
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, View.ld_unit_zero (S := S512x1024) hz2, View.ld_unit_zero (S := S512x10) hz2, View.ld_unit_zero (S := S512x128) hz2, View.ld_unit_zero (S := S1024x512) hz2, View.ld_unit_zero (S := S1x512) hz2, View.ld_unit_zero (S := S1x1024) hz2, View.ld_unit_zero (S := S1024x256) hz2, View.ld_unit_zero (S := S1x256) hz2, View.ld_unit_zero (S := S128x1024) hz2, View.ld_unit_zero (S := S10x1024) hz2, View.ld_unit_zero (S := S512x512) hz2, View.ld_unit_zero (S := S512x16) hz2, View.ld_unit_zero (S := S1x16) hz2, View.ld_unit_zero (S := S1024x1) hz2]

/-- A later point leaves this in the bucket counts' block. -/
theorem out_B_21 (c : Dev nD) (i : grid0.Coords) (arg1 : Memref sig .tc .vmem S512x1024 .f32) (harg1 : arg1.IsWhole) (arg2 : Memref sig .tc .vmem S512x10 .f32) (harg2 : arg2.IsWhole) (arg3 : Memref sig .tc .vmem S512x128 .f32) (harg3 : arg3.IsWhole) (arg4 : Memref sig .tc .vmem S1024x512 .f32) (harg4 : arg4.IsWhole) (arg5 : Memref sig .tc .vmem S1x512 .f32) (harg5 : arg5.IsWhole) (arg6 : Memref sig .tc .vmem S512x1024 .f32) (harg6 : arg6.IsWhole) (arg7 : Memref sig .tc .vmem S1x1024 .f32) (harg7 : arg7.IsWhole) (arg8 : Memref sig .tc .vmem S1024x256 .f32) (harg8 : arg8.IsWhole) (arg9 : Memref sig .tc .vmem S1x256 .f32) (harg9 : arg9.IsWhole) (arg10 : Memref sig .tc .vmem S128x1024 .f32) (harg10 : arg10.IsWhole) (arg11 : Memref sig .tc .vmem S10x1024 .f32) (harg11 : arg11.IsWhole) (arg12 : Memref sig .tc .vmem S1x1024 .f32) (harg12 : arg12.IsWhole) (arg13 : Memref sig .tc .vmem S1024x512 .f32) (harg13 : arg13.IsWhole) (arg14 : Memref sig .tc .vmem S1x512 .f32) (harg14 : arg14.IsWhole) (arg15 : Memref sig .tc .vmem S512x512 .f32) (harg15 : arg15.IsWhole) (arg16 : Memref sig .tc .vmem S1x512 .f32) (harg16 : arg16.IsWhole) (arg17 : Memref sig .tc .vmem S512x16 .f32) (harg17 : arg17.IsWhole) (arg18 : Memref sig .tc .vmem S1x16 .f32) (harg18 : arg18.IsWhole) (arg19 : Memref sig .tc .vmem S1x16 .i32) (harg19 : arg19.IsWhole) (arg20 : Memref sig .tc .vmem S512x512 .f32) (harg20 : arg20.IsWhole) (arg21 : Memref sig .tc .vmem S1024x512 .f32) (harg21 : arg21.IsWhole) (arg22 : Memref sig .tc .vmem S1024x1 .f32) (harg22 : arg22.IsWhole) (hc0 : ¬cond0_0 i)
    (x0 : Vec F S512x1024 .f32) (x1 : Vec F S512x10 .f32) (x2 : Vec F S512x128 .f32) (x3 : Vec F S1024x512 .f32) (x4 : Vec F S1x512 .f32) (x5 : Vec F S512x1024 .f32) (x6 : Vec F S1x1024 .f32) (x7 : Vec F S1024x256 .f32) (x8 : Vec F S1x256 .f32) (x9 : Vec F S128x1024 .f32) (x10 : Vec F S10x1024 .f32) (x11 : Vec F S1x1024 .f32) (x12 : Vec F S1024x512 .f32) (x13 : Vec F S1x512 .f32) (x14 : Vec F S512x512 .f32) (x15 : Vec F S1x512 .f32) (x16 : Vec F S512x16 .f32) (x17 : Vec F S1x16 .f32) (x18 : Vec F S1x16 .i32) (xo20 : Vec F S1024x512 .f32) (xo21 : Vec F S1024x1 .f32) :
    out0_B_21 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15 x16 x17 x18 xo20 xo21 = k0_pay1 (k0_pay9 (tile x0 x1 x2 x3 x4 x5 x6 x7 x8 x9 x10 x11 x12 x13 x14 x15) x16 x17 x18) (k0_pay13 xo21) := by
  unfold out0_B_21
  rw [View.read_writes_eq_canon _ _ _ (cover0_B_21 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15 x16 x17 x18 xo20 xo21)]
  unfold kernelRun0_B
  dsimp only
  sl_unfold_words
  rw [View.canon_unit_zero (S := S1024x1) hz2]
  unfold tile
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, View.ld_unit_zero (S := S512x1024) hz2, View.ld_unit_zero (S := S512x10) hz2, View.ld_unit_zero (S := S512x128) hz2, View.ld_unit_zero (S := S1024x512) hz2, View.ld_unit_zero (S := S1x512) hz2, View.ld_unit_zero (S := S1x1024) hz2, View.ld_unit_zero (S := S1024x256) hz2, View.ld_unit_zero (S := S1x256) hz2, View.ld_unit_zero (S := S128x1024) hz2, View.ld_unit_zero (S := S10x1024) hz2, View.ld_unit_zero (S := S512x512) hz2, View.ld_unit_zero (S := S512x16) hz2, View.ld_unit_zero (S := S1x16) hz2, View.ld_unit_zero (S := S1024x1) hz2]

end Cert.KernelIdeal.Val

end
-- ==== Proof.Blocks.lean ====
/-
  What each input block of the two launches holds: a tiled window's block at point `t` is rows `512 t …` of its
  array, any other window's block is the whole array.
-/
module

public import proofs.«01_k».proof.Proof.Gen.KernelIdeal.Frame
public import Idealize.ShloMosaic.Lib.Pipeline.Value
public import Idealize.ShloMosaic.Lib.Pointwise

@[expose] public section

set_option maxRecDepth 16384

noncomputable section

namespace Cert.KernelIdeal.Val

open Cert.KernelIdeal Cert.KernelIdeal.Gen
open Idealize.ShloMosaic Idealize.ShloMosaic.TcCoe Idealize.SL.Sem

variable {F : FTy → Type} [FloatOps F]
variable (V : (c : Dev nD) → (b : Ref sig .tc) → Buf (Elt F) ((c : Thread nD τ).loc b)) (c : Dev nD)

/-- The row of the whole array that row `r` of tile `t` is (first launch). -/
def row0 (t : Fin cfg0.N) (r : Fin 512) : Fin 4096 :=
  ⟨t.val * 512 + r.val, by have h : cfg0.N = 8 := N_0; have := t.isLt; have := r.isLt; omega⟩

/-- The row of the whole array that row `r` of tile `t` is (second launch). -/
def row1 (t : Fin cfg1.N) (r : Fin 512) : Fin 4096 :=
  ⟨t.val * 512 + r.val, by have h : cfg1.N = 8 := N_1; have := t.isLt; have := r.isLt; omega⟩

/-- Window 0's block at point `t` is rows `512 t …` of its array. -/
theorem blk0_0 (t : Fin cfg0.N) (r : Fin 512) (j : Fin 1024) :
    iblk0 V c 0 t (ix2 r j) = V c main_arg0 (ix2 (row0 t r) j) := by
  have hi : win0_0.index t 0 = t.val ∧ win0_0.index t 1 = 0 := by
    rcases fin_N0 t with rfl | rfl | rfl | rfl | rfl | rfl | rfl | rfl <;> decide
  unfold iblk0
  rw [View.read_apply]
  show V c main_arg0 _ = V c main_arg0 _
  congr 1
  funext a
  apply Fin.ext
  match a with
  | ⟨0, _⟩ => show win0_0.index t 0 * 512 + 1 * r.val = t.val * 512 + r.val; rw [hi.1]; omega
  | ⟨1, _⟩ => show win0_0.index t 1 * 1024 + 1 * j.val = j.val; rw [hi.2]; omega

/-- Window 1's block at point `t` is rows `512 t …` of its array. -/
theorem blk0_1 (t : Fin cfg0.N) (r : Fin 512) (j : Fin 10) :
    iblk0 V c 1 t (ix2 r j) = V c main_arg1 (ix2 (row0 t r) j) := by
  have hi : win0_1.index t 0 = t.val ∧ win0_1.index t 1 = 0 := by
    rcases fin_N0 t with rfl | rfl | rfl | rfl | rfl | rfl | rfl | rfl <;> decide
  unfold iblk0
  rw [View.read_apply]
  show V c main_arg1 _ = V c main_arg1 _
  congr 1
  funext a
  apply Fin.ext
  match a with
  | ⟨0, _⟩ => show win0_1.index t 0 * 512 + 1 * r.val = t.val * 512 + r.val; rw [hi.1]; omega
  | ⟨1, _⟩ => show win0_1.index t 1 * 10 + 1 * j.val = j.val; rw [hi.2]; omega

/-- Window 2's block at point `t` is rows `512 t …` of its array. -/
theorem blk0_2 (t : Fin cfg0.N) (r : Fin 512) (j : Fin 128) :
    iblk0 V c 2 t (ix2 r j) = V c main_arg16 (ix2 (row0 t r) j) := by
  have hi : win0_2.index t 0 = t.val ∧ win0_2.index t 1 = 0 := by
    rcases fin_N0 t with rfl | rfl | rfl | rfl | rfl | rfl | rfl | rfl <;> decide
  unfold iblk0
  rw [View.read_apply]
  show V c main_arg16 _ = V c main_arg16 _
  congr 1
  funext a
  apply Fin.ext
  match a with
  | ⟨0, _⟩ => show win0_2.index t 0 * 512 + 1 * r.val = t.val * 512 + r.val; rw [hi.1]; omega
  | ⟨1, _⟩ => show win0_2.index t 1 * 128 + 1 * j.val = j.val; rw [hi.2]; omega

/-- Window 3's block is its whole array. -/
theorem blk0_3 (t : Fin cfg0.N) : iblk0 V c 3 t = V c main_arg2 := by
  have hi : (fun a => win0_3.index t a * main_arg2.ty.shape.size a) = fun _ => 0 := by
    funext a; fin_cases a <;> rfl
  exact Memref.read_access_unit_zero (Elt F) main_arg2 hi (fun a => by rw [congrFun hi a]; simp) (V c main_arg2)

/-- Window 4's block is its whole array. -/
theorem blk0_4 (t : Fin cfg0.N) : iblk0 V c 4 t = V c main_call0_v2 := by
  have hi : (fun a => win0_4.index t a * main_call0_v2.ty.shape.size a) = fun _ => 0 := by
    funext a; fin_cases a <;> rfl
  exact Memref.read_access_unit_zero (Elt F) main_call0_v2 hi (fun a => by rw [congrFun hi a]; simp) (V c main_call0_v2)

/-- Window 5's block is its whole array. -/
theorem blk0_5 (t : Fin cfg0.N) : iblk0 V c 5 t = V c main_arg4 := by
  have hi : (fun a => win0_5.index t a * main_arg4.ty.shape.size a) = fun _ => 0 := by
    funext a; fin_cases a <;> rfl
  exact Memref.read_access_unit_zero (Elt F) main_arg4 hi (fun a => by rw [congrFun hi a]; simp) (V c main_arg4)

/-- Window 6's block is its whole array. -/
theorem blk0_6 (t : Fin cfg0.N) : iblk0 V c 6 t = V c main_call0_v3 := by
  have hi : (fun a => win0_6.index t a * main_call0_v3.ty.shape.size a) = fun _ => 0 := by
    funext a; fin_cases a <;> rfl
  exact Memref.read_access_unit_zero (Elt F) main_call0_v3 hi (fun a => by rw [congrFun hi a]; simp) (V c main_call0_v3)

/-- Window 7's block is its whole array. -/
theorem blk0_7 (t : Fin cfg0.N) : iblk0 V c 7 t = V c main_arg6 := by
  have hi : (fun a => win0_7.index t a * main_arg6.ty.shape.size a) = fun _ => 0 := by
    funext a; fin_cases a <;> rfl
  exact Memref.read_access_unit_zero (Elt F) main_arg6 hi (fun a => by rw [congrFun hi a]; simp) (V c main_arg6)

/-- Window 8's block is its whole array. -/
theorem blk0_8 (t : Fin cfg0.N) : iblk0 V c 8 t = V c main_call0_v4 := by
  have hi : (fun a => win0_8.index t a * main_call0_v4.ty.shape.size a) = fun _ => 0 := by
    funext a; fin_cases a <;> rfl
  exact Memref.read_access_unit_zero (Elt F) main_call0_v4 hi (fun a => by rw [congrFun hi a]; simp) (V c main_call0_v4)

/-- Window 9's block is its whole array. -/
theorem blk0_9 (t : Fin cfg0.N) : iblk0 V c 9 t = V c main_call0_v0 := by
  have hi : (fun a => win0_9.index t a * main_call0_v0.ty.shape.size a) = fun _ => 0 := by
    funext a; fin_cases a <;> rfl
  exact Memref.read_access_unit_zero (Elt F) main_call0_v0 hi (fun a => by rw [congrFun hi a]; simp) (V c main_call0_v0)

/-- Window 10's block is its whole array. -/
theorem blk0_10 (t : Fin cfg0.N) : iblk0 V c 10 t = V c main_call0_v1 := by
  have hi : (fun a => win0_10.index t a * main_call0_v1.ty.shape.size a) = fun _ => 0 := by
    funext a; fin_cases a <;> rfl
  exact Memref.read_access_unit_zero (Elt F) main_call0_v1 hi (fun a => by rw [congrFun hi a]; simp) (V c main_call0_v1)

/-- Window 11's block is its whole array. -/
theorem blk0_11 (t : Fin cfg0.N) : iblk0 V c 11 t = V c main_call0_v5 := by
  have hi : (fun a => win0_11.index t a * main_call0_v5.ty.shape.size a) = fun _ => 0 := by
    funext a; fin_cases a <;> rfl
  exact Memref.read_access_unit_zero (Elt F) main_call0_v5 hi (fun a => by rw [congrFun hi a]; simp) (V c main_call0_v5)

/-- Window 12's block is its whole array. -/
theorem blk0_12 (t : Fin cfg0.N) : iblk0 V c 12 t = V c main_arg10 := by
  have hi : (fun a => win0_12.index t a * main_arg10.ty.shape.size a) = fun _ => 0 := by
    funext a; fin_cases a <;> rfl
  exact Memref.read_access_unit_zero (Elt F) main_arg10 hi (fun a => by rw [congrFun hi a]; simp) (V c main_arg10)

/-- Window 13's block is its whole array. -/
theorem blk0_13 (t : Fin cfg0.N) : iblk0 V c 13 t = V c main_call0_v6 := by
  have hi : (fun a => win0_13.index t a * main_call0_v6.ty.shape.size a) = fun _ => 0 := by
    funext a; fin_cases a <;> rfl
  exact Memref.read_access_unit_zero (Elt F) main_call0_v6 hi (fun a => by rw [congrFun hi a]; simp) (V c main_call0_v6)

/-- Window 14's block is its whole array. -/
theorem blk0_14 (t : Fin cfg0.N) : iblk0 V c 14 t = V c main_arg12 := by
  have hi : (fun a => win0_14.index t a * main_arg12.ty.shape.size a) = fun _ => 0 := by
    funext a; fin_cases a <;> rfl
  exact Memref.read_access_unit_zero (Elt F) main_arg12 hi (fun a => by rw [congrFun hi a]; simp) (V c main_arg12)

/-- Window 15's block is its whole array. -/
theorem blk0_15 (t : Fin cfg0.N) : iblk0 V c 15 t = V c main_call0_v7 := by
  have hi : (fun a => win0_15.index t a * main_call0_v7.ty.shape.size a) = fun _ => 0 := by
    funext a; fin_cases a <;> rfl
  exact Memref.read_access_unit_zero (Elt F) main_call0_v7 hi (fun a => by rw [congrFun hi a]; simp) (V c main_call0_v7)

/-- Window 16's block is its whole array. -/
theorem blk0_16 (t : Fin cfg0.N) : iblk0 V c 16 t = V c main_arg14 := by
  have hi : (fun a => win0_16.index t a * main_arg14.ty.shape.size a) = fun _ => 0 := by
    funext a; fin_cases a <;> rfl
  exact Memref.read_access_unit_zero (Elt F) main_arg14 hi (fun a => by rw [congrFun hi a]; simp) (V c main_arg14)

/-- Window 17's block is its whole array. -/
theorem blk0_17 (t : Fin cfg0.N) : iblk0 V c 17 t = V c main_call0_v8 := by
  have hi : (fun a => win0_17.index t a * main_call0_v8.ty.shape.size a) = fun _ => 0 := by
    funext a; fin_cases a <;> rfl
  exact Memref.read_access_unit_zero (Elt F) main_call0_v8 hi (fun a => by rw [congrFun hi a]; simp) (V c main_call0_v8)

/-- Window 18's block is its whole array. -/
theorem blk0_18 (t : Fin cfg0.N) : iblk0 V c 18 t = V c main_call0_c := by
  have hi : (fun a => win0_18.index t a * main_call0_c.ty.shape.size a) = fun _ => 0 := by
    funext a; fin_cases a <;> rfl
  exact Memref.read_access_unit_zero (Elt F) main_call0_c hi (fun a => by rw [congrFun hi a]; simp) (V c main_call0_c)

/-- Window 0's block at point `t` is rows `512 t …` of its array. -/
theorem blk1_0 (t : Fin cfg1.N) (r : Fin 512) (j : Fin 512) :
    iblk1 V c 0 t (ix2 r j) = V c main_call0_v9_0 (ix2 (row1 t r) j) := by
  have hi : win1_0.index t 0 = t.val ∧ win1_0.index t 1 = 0 := by
    rcases fin_N1 t with rfl | rfl | rfl | rfl | rfl | rfl | rfl | rfl <;> decide
  unfold iblk1
  rw [View.read_apply]
  show V c main_call0_v9_0 _ = V c main_call0_v9_0 _
  congr 1
  funext a
  apply Fin.ext
  match a with
  | ⟨0, _⟩ => show win1_0.index t 0 * 512 + 1 * r.val = t.val * 512 + r.val; rw [hi.1]; omega
  | ⟨1, _⟩ => show win1_0.index t 1 * 512 + 1 * j.val = j.val; rw [hi.2]; omega

/-- Window 1's block is its whole array. -/
theorem blk1_1 (t : Fin cfg1.N) : iblk1 V c 1 t = V c main_call0_v9_1 := by
  have hi : (fun a => win1_1.index t a * main_call0_v9_1.ty.shape.size a) = fun _ => 0 := by
    funext a; fin_cases a <;> rfl
  exact Memref.read_access_unit_zero (Elt F) main_call0_v9_1 hi (fun a => by rw [congrFun hi a]; simp) (V c main_call0_v9_1)

/-- Window 2's block is its whole array. -/
theorem blk1_2 (t : Fin cfg1.N) : iblk1 V c 2 t = V c main_call0_v9_2 := by
  have hi : (fun a => win1_2.index t a * main_call0_v9_2.ty.shape.size a) = fun _ => 0 := by
    funext a; fin_cases a <;> rfl
  exact Memref.read_access_unit_zero (Elt F) main_call0_v9_2 hi (fun a => by rw [congrFun hi a]; simp) (V c main_call0_v9_2)

end Cert.KernelIdeal.Val

end
-- ==== Proof.Spec.lean ====
/-
  The mathematics both programs compute, written once over plain functions of coordinates with values in the
  extended reals: a dense layer, the encoder, the latent sample, the decoder, the bucket of a row, the bucket sums
  and counts, and the soft assignment. Nothing here names a program.
-/
module

public import Idealize.ShloMosaic.Lib.Pointwise

@[expose] public section

noncomputable section

namespace Cert.Spec

open Idealize.ShloMosaic

/-- A rank-2 array as a function of its two coordinates. -/
def mat {K N : ℕ} {α : Type} (W : (⟨2, ![K, N]⟩ : Shape).Idx → α) (k : Fin K) (j : Fin N) : α := W (ix2 k j)
/-- The one row of a `[1, N]` array. -/
def row {N : ℕ} {α : Type} (b : (⟨2, ![1, N]⟩ : Shape).Idx → α) (j : Fin N) : α := b (ix2 0 j)
/-- A rank-1 array as a function of its coordinate. -/
def vec {N : ℕ} {α : Type} (b : (⟨1, ![N]⟩ : Shape).Idx → α) (j : Fin N) : α := b (ix1 j)

/-- A dense layer: the row vector times the matrix, plus the bias. -/
def dense {K N : ℕ} (x : Fin K → EReal) (W : Fin K → Fin N → EReal) (b : Fin N → EReal) (j : Fin N) : EReal :=
  (∑ k, x k * W k j) + b j

/-- The positive part, coordinate by coordinate. -/
def relu {N : ℕ} (v : Fin N → EReal) (j : Fin N) : EReal := max (v j) 0

/-- `log (1 + exp y)` in the form that does not overflow. -/
def softplus (y : EReal) : EReal :=
  max y 0 + Ideal.log (1 + Ideal.exp (-(FloatOps.absf (F := Ideal) (φ := .f32) y)))

/-- The encoder's row: two rectified dense layers and a linear one. -/
def enc (x : Fin 1024 → EReal) (W1 : Fin 1024 → Fin 512 → EReal) (b1 : Fin 512 → EReal) (W2 : Fin 512 → Fin 1024 → EReal)
    (b2 : Fin 1024 → EReal) (W3 : Fin 1024 → Fin 256 → EReal) (b3 : Fin 256 → EReal) : Fin 256 → EReal :=
  dense (relu (dense (relu (dense x W1 b1)) W2 b2)) W3 b3

/-- The latent sample of a row: location plus scale times noise; the scale is the softplus of the second half of
    the encoder's row, shifted by the constant whose softplus is one. -/
def latent (ts : Fin 256 → EReal) (eps : Fin 128 → EReal) (j : Fin 128) : EReal :=
  ts ⟨j.val, by omega⟩ + softplus (ts ⟨128 + j.val, by omega⟩ + Ideal.ofBits .f32 0x3F0A9444#32) * eps j

/-- The decoder's row from the latent and the labels, the first layer's matrix cut after its 128th row. -/
def dec (z : Fin 128 → EReal) (l : Fin 10 → EReal) (Wz : Fin 128 → Fin 1024 → EReal) (Wl : Fin 10 → Fin 1024 → EReal)
    (b1 : Fin 1024 → EReal) (W2 : Fin 1024 → Fin 512 → EReal) (b2 : Fin 512 → EReal) (W3 : Fin 512 → Fin 512 → EReal)
    (b3 : Fin 512 → EReal) : Fin 512 → EReal :=
  dense (relu (dense (relu fun j => ((∑ k, z k * Wz k j) + ∑ k, l k * Wl k j) + b1 j) W2 b2)) W3 b3

/-- The bucket of a row: sixteen quantised projections, each times a prime modulo 1024, summed modulo 1024. -/
def bucket (o : Fin 512 → EReal) (Wp : Fin 512 → Fin 16 → EReal) (bp : Fin 16 → EReal) (p : Fin 16 → BitVec 32) : BitVec 32 :=
  (Finset.univ.fold IntOp.addi 0#32 fun c : Fin 16 =>
    ((Ideal.fptosi 32 (Ideal.liftRound Int.floor (dense o Wp bp c * Ideal.ofBits .f32 0x3E800000#32)) * p c) &&& 1023#32))
    &&& 1023#32

/-- A bucket's row of sums: over all rows, the row where it falls in the bucket, zero elsewhere. -/
def sums {R D : ℕ} (b : Fin R → BitVec 32) (o : Fin R → Fin D → EReal) (k : Fin 1024) (d : Fin D) : EReal :=
  ∑ r, if b r = BitVec.ofNat 32 k.val then o r d else 0

/-- The number of rows in a bucket. -/
def counts {R : ℕ} (b : Fin R → BitVec 32) (k : Fin 1024) : EReal :=
  ∑ r, if b r = BitVec.ofNat 32 k.val then 1 else 0

/-- The mean of each bucket (an empty bucket counts as one row). -/
def means (S : Fin 1024 → Fin 512 → EReal) (n : Fin 1024 → EReal) (k : Fin 1024) (d : Fin 512) : EReal :=
  Ideal.div (S k d) (max (n k) 1)

/-- The unnormalised assignment: one over one plus the squared distance of a row to each mean. -/
def sim (o : Fin 512 → EReal) (M : Fin 1024 → Fin 512 → EReal) (k : Fin 1024) : EReal :=
  Ideal.div 1 (1 + max (((∑ d, o d * o d) + ∑ d, M k d * M k d) - Ideal.ofBits .f32 0x40000000#32 * ∑ d, o d * M k d) 0)

/-- The soft assignment: the unnormalised one over its sum. -/
def assign (o : Fin 512 → EReal) (M : Fin 1024 → Fin 512 → EReal) (k : Fin 1024) : EReal :=
  Ideal.div (sim o M k) (∑ k', sim o M k')

/-- The seventeen arguments as functions of coordinates. -/
structure Args where
  x : Fin 4096 → Fin 1024 → EReal
  labels : Fin 4096 → Fin 10 → EReal
  We1 : Fin 1024 → Fin 512 → EReal
  be1 : Fin 512 → EReal
  We2 : Fin 512 → Fin 1024 → EReal
  be2 : Fin 1024 → EReal
  We3 : Fin 1024 → Fin 256 → EReal
  be3 : Fin 256 → EReal
  Wd1 : Fin 138 → Fin 1024 → EReal
  bd1 : Fin 1024 → EReal
  Wd2 : Fin 1024 → Fin 512 → EReal
  bd2 : Fin 512 → EReal
  Wd3 : Fin 512 → Fin 512 → EReal
  bd3 : Fin 512 → EReal
  Wp : Fin 512 → Fin 16 → EReal
  bp : Fin 16 → EReal
  eps : Fin 4096 → Fin 128 → EReal

/-- The arguments read out of seventeen arrays. -/
def Args.of (a0 : (⟨2, ![4096, 1024]⟩ : Shape).Idx → EReal)
    (a1 : (⟨2, ![4096, 10]⟩ : Shape).Idx → EReal)
    (a2 : (⟨2, ![1024, 512]⟩ : Shape).Idx → EReal)
    (a3 : (⟨1, ![512]⟩ : Shape).Idx → EReal)
    (a4 : (⟨2, ![512, 1024]⟩ : Shape).Idx → EReal)
    (a5 : (⟨1, ![1024]⟩ : Shape).Idx → EReal)
    (a6 : (⟨2, ![1024, 256]⟩ : Shape).Idx → EReal)
    (a7 : (⟨1, ![256]⟩ : Shape).Idx → EReal)
    (a8 : (⟨2, ![138, 1024]⟩ : Shape).Idx → EReal)
    (a9 : (⟨1, ![1024]⟩ : Shape).Idx → EReal)
    (a10 : (⟨2, ![1024, 512]⟩ : Shape).Idx → EReal)
    (a11 : (⟨1, ![512]⟩ : Shape).Idx → EReal)
    (a12 : (⟨2, ![512, 512]⟩ : Shape).Idx → EReal)
    (a13 : (⟨1, ![512]⟩ : Shape).Idx → EReal)
    (a14 : (⟨2, ![512, 16]⟩ : Shape).Idx → EReal)
    (a15 : (⟨1, ![16]⟩ : Shape).Idx → EReal)
    (a16 : (⟨2, ![4096, 128]⟩ : Shape).Idx → EReal) : Args where
  x := mat a0
  labels := mat a1
  We1 := mat a2
  be1 := vec a3
  We2 := mat a4
  be2 := vec a5
  We3 := mat a6
  be3 := vec a7
  Wd1 := mat a8
  bd1 := vec a9
  Wd2 := mat a10
  bd2 := vec a11
  Wd3 := mat a12
  bd3 := vec a13
  Wp := mat a14
  bp := vec a15
  eps := mat a16

/-- The multipliers of the sixteen projections: the odd primes from 3 to 59. -/
def primes : Fin 16 → BitVec 32 := ![3#32, 5#32, 7#32, 11#32, 13#32, 17#32, 19#32, 23#32, 29#32, 31#32, 37#32, 41#32, 43#32, 47#32, 53#32, 59#32]

/-- The decoder output of row `R`. -/
def Args.out (A : Args) (R : Fin 4096) : Fin 512 → EReal :=
  dec (latent (enc (A.x R) A.We1 A.be1 A.We2 A.be2 A.We3 A.be3) (A.eps R)) (A.labels R) (fun k => A.Wd1 ⟨k.val, by omega⟩)
    (fun k => A.Wd1 ⟨128 + k.val, by omega⟩) A.bd1 A.Wd2 A.bd2 A.Wd3 A.bd3

/-- The bucket of row `R`. -/
def Args.bkt (A : Args) (R : Fin 4096) : BitVec 32 := bucket (A.out R) A.Wp A.bp primes

/-- The result: row `R`'s soft assignment to the bucket means. -/
def Args.result (A : Args) (R : Fin 4096) : Fin 1024 → EReal :=
  assign (A.out R) (means (sums A.bkt A.out) (counts A.bkt))

end Cert.Spec

end
-- ==== Proof.Pay0.lean ====
/-
  What the first kernel body computes from its blocks, one entry at a time, in the words of Spec.lean.
-/
module

public import proofs.«01_k».proof.Proof.Gen.KernelIdeal.Skeleton
public import proofs.«01_k».proof.Proof.Spec

@[expose] public section

set_option maxRecDepth 16384

noncomputable section

namespace Cert.KernelIdeal.Val

open Idealize.ShloMosaic Cert.KernelIdeal Cert.KernelIdeal.Gen Cert.Spec

/-- The encoder's payload at an entry. -/
theorem pay2_apply (v0 : Vec Ideal S512x1024 .f32) (v1 : Vec Ideal S1024x512 .f32) (v3 : Vec Ideal S1x512 .f32)
    (v9 : Vec Ideal S512x1024 .f32) (v11 : Vec Ideal S1x1024 .f32) (v17 : Vec Ideal S1024x256 .f32) (v19 : Vec Ideal S1x256 .f32)
    (r : Fin 512) (j : Fin 256) :
    k0_pay2 v0 v1 v3 v9 v11 v17 v19 (ix2 r j)
      = enc (mat v0 r) (mat v1) (row v3) (mat v9) (row v11) (mat v17) (row v19) j := by
  unfold enc dense relu mat row
  pointwise [k0_pay2]

/-- The location's payload at an entry. -/
theorem pay3_apply (v0 : Vec Ideal S512x1024 .f32) (v1 : Vec Ideal S1024x512 .f32) (v3 : Vec Ideal S1x512 .f32)
    (v9 : Vec Ideal S512x1024 .f32) (v11 : Vec Ideal S1x1024 .f32) (v17 : Vec Ideal S1024x256 .f32) (v19 : Vec Ideal S1x256 .f32)
    (r : Fin 512) (j : Fin 128) :
    k0_pay3 v0 v1 v3 v9 v11 v17 v19 (ix2 r j) = k0_pay2 v0 v1 v3 v9 v11 v17 v19 (ix2 r ⟨j.val, by omega⟩) := by
  unfold k0_pay3
  generalize k0_pay2 v0 v1 v3 v9 v11 v17 v19 = T
  pointwise

/-- The raw scale's payload at an entry, shifted by its constant. -/
theorem pay4_apply (v0 : Vec Ideal S512x1024 .f32) (v1 : Vec Ideal S1024x512 .f32) (v3 : Vec Ideal S1x512 .f32)
    (v9 : Vec Ideal S512x1024 .f32) (v11 : Vec Ideal S1x1024 .f32) (v17 : Vec Ideal S1024x256 .f32) (v19 : Vec Ideal S1x256 .f32)
    (r : Fin 512) (j : Fin 128) :
    k0_pay4 v0 v1 v3 v9 v11 v17 v19 (ix2 r j)
      = k0_pay2 v0 v1 v3 v9 v11 v17 v19 (ix2 r ⟨128 + j.val, by omega⟩) + Ideal.ofBits .f32 0x3F0A9444#32 := by
  unfold k0_pay4
  generalize k0_pay2 v0 v1 v3 v9 v11 v17 v19 = T
  pointwise

/-- The two halves of the scale add up to the softplus of the shifted raw scale. -/
theorem pay56_apply (v0 : Vec Ideal S512x1024 .f32) (v1 : Vec Ideal S1024x512 .f32) (v3 : Vec Ideal S1x512 .f32)
    (v9 : Vec Ideal S512x1024 .f32) (v11 : Vec Ideal S1x1024 .f32) (v17 : Vec Ideal S1024x256 .f32) (v19 : Vec Ideal S1x256 .f32)
    (r : Fin 512) (j : Fin 128) :
    k0_pay5 v0 v1 v3 v9 v11 v17 v19 (ix2 r j) + k0_pay6 v0 v1 v3 v9 v11 v17 v19 (ix2 r j)
      = softplus (k0_pay4 v0 v1 v3 v9 v11 v17 v19 (ix2 r j)) := by
  unfold k0_pay5 k0_pay6 softplus
  generalize k0_pay4 v0 v1 v3 v9 v11 v17 v19 = T
  pointwise
  rw [zero_sub]

/-- The decoder's payload at an entry, from the location, the two halves of the scale and the noise. -/
theorem pay7_apply (v23 v28 v35 v37 : Vec Ideal S512x128 .f32) (v40 : Vec Ideal S128x1024 .f32) (v43 : Vec Ideal S512x10 .f32)
    (v44 : Vec Ideal S10x1024 .f32) (v48 : Vec Ideal S1x1024 .f32) (v54 : Vec Ideal S1024x512 .f32) (v56 : Vec Ideal S1x512 .f32)
    (v62 : Vec Ideal S512x512 .f32) (v64 : Vec Ideal S1x512 .f32) (r : Fin 512) (j : Fin 512) :
    k0_pay7 v23 v28 v35 v37 v40 v43 v44 v48 v54 v56 v62 v64 (ix2 r j)
      = dec (fun k => v23 (ix2 r k) + (v28 (ix2 r k) + v35 (ix2 r k)) * v37 (ix2 r k)) (mat v43 r) (mat v40) (mat v44) (row v48)
          (mat v54) (row v56) (mat v62) (row v64) j := by
  unfold dec dense relu mat row
  pointwise [k0_pay7]

end Cert.KernelIdeal.Val

end
-- ==== Proof.Pay1.lean ====
/-
  The bucket of a row, the bucket sums and counts of a tile, and the soft assignment of a tile: what the kernel's
  other payloads hold at an entry, in the words of Spec.lean.
-/
module

public import proofs.«01_k».proof.Proof.Gen.KernelIdeal.Skeleton
public import proofs.«01_k».proof.Proof.Spec

@[expose] public section

set_option maxRecDepth 16384

noncomputable section

namespace Cert.KernelIdeal.Val

open Idealize.ShloMosaic Cert.KernelIdeal Cert.KernelIdeal.Gen Cert.Spec

/-- A comparison's bit, widened and read as a number, is one or zero. -/
theorem sitofp_cmpi_eq (a b : BitVec 32) :
    (FloatOps.sitofp .f32 ((IntOp.cmpi .eq a b).setWidth 32) : Ideal .f32) = if a = b then (1 : EReal) else 0 := by
  by_cases h : a = b
  · subst h
    have : IntOp.cmpi .eq a a = 1#1 := by simp [IntOp.cmpi]
    rw [this, if_pos rfl]
    exact (congrArg (fun z : ℤ => ((z : ℝ) : EReal)) (show (BitVec.setWidth 32 1#1).toInt = 1 by decide)).trans (by simp)
  · have : IntOp.cmpi .eq a b = 0#1 := by simp [IntOp.cmpi, beq_eq_false_iff_ne.mpr h]
    rw [this, if_neg h]
    exact (congrArg (fun z : ℤ => ((z : ℝ) : EReal)) (show (BitVec.setWidth 32 0#1).toInt = 0 by decide)).trans (by simp)

/-- The one-hot payload at an entry: one exactly where the row's bucket is the column. -/
theorem pay8_apply (v67 : Vec Ideal S512x512 .f32) (v69 : Vec Ideal S512x16 .f32) (v71 : Vec Ideal S1x16 .f32)
    (v79 : Vec Ideal S1x16 .i32) (r : Fin 512) (k : Fin 1024) :
    k0_pay8 v67 v69 v71 v79 (ix2 r k)
      = if bucket (mat v67 r) (mat v69) (row v71) (row v79) = BitVec.ofNat 32 k.val then (1 : EReal) else 0 := by
  unfold bucket dense mat row
  pointwise [k0_pay8]
  exact sitofp_cmpi_eq _ _

/-- The counts of a tile: the one-hot columns summed. -/
theorem pay9_apply (v67 : Vec Ideal S512x512 .f32) (v69 : Vec Ideal S512x16 .f32) (v71 : Vec Ideal S1x16 .f32)
    (v79 : Vec Ideal S1x16 .i32) (k : Fin 1024) (j : Fin 1) :
    k0_pay9 v67 v69 v71 v79 (ix2 k j) = ∑ r : Fin 512, k0_pay8 v67 v69 v71 v79 (ix2 r k) * (1 : EReal) := by
  unfold k0_pay9
  generalize k0_pay8 v67 v69 v71 v79 = T
  pointwise [Ideal.ofBits_one_f32]

/-- The sums of a tile, added to what was there. -/
theorem pay12_apply (v67 : Vec Ideal S512x512 .f32) (v69 : Vec Ideal S512x16 .f32) (v71 : Vec Ideal S1x16 .f32)
    (v79 : Vec Ideal S1x16 .i32) (v99 : Vec Ideal S1024x512 .f32) (k : Fin 1024) (j : Fin 512) :
    k0_pay12 v67 v69 v71 v79 v99 (ix2 k j) = v99 (ix2 k j) + ∑ r : Fin 512, k0_pay8 v67 v69 v71 v79 (ix2 r k) * v67 (ix2 r j) := by
  unfold k0_pay12
  generalize k0_pay8 v67 v69 v71 v79 = T
  pointwise

/-- The reshape to the same shape changes nothing. -/
theorem pay13_eq (v : Vec Ideal S1024x1 .f32) : k0_pay13 v = v := by
  funext j
  idx_vars j
  pointwise [k0_pay13]

/-- The sums start at zero. -/
theorem pay10_apply (i : S1024x512.Idx) : k0_pay10 (F := Ideal) i = (0 : EReal) := by
  pointwise [k0_pay10]

/-- The counts start at zero. -/
theorem pay11_apply (i : S1024x1.Idx) : k0_pay11 (F := Ideal) i = (0 : EReal) := by
  pointwise [k0_pay11]

/-- The assignment's payload at an entry. -/
theorem k1_pay1_apply (v0 : Vec Ideal S512x512 .f32) (v2 : Vec Ideal S1024x512 .f32) (v4 : Vec Ideal S1024x1 .f32)
    (r : Fin 512) (k : Fin 1024) :
    k1_pay1 v0 v2 v4 (ix2 r k) = assign (mat v0 r) (means (mat v2) fun k => v4 (ix2 k 0)) k := by
  unfold assign sim means mat
  pointwise [k1_pay1, Ideal.ofBits_one_f32]

end Cert.KernelIdeal.Val

end
-- ==== Proof.Region0.lean ====
/-
  What the first launch leaves in its three result arrays: every row's decoder output, and per bucket the sum and the
  number of the rows that fall in it.
-/
module

public import proofs.«01_k».proof.Proof.Outs
public import proofs.«01_k».proof.Proof.Blocks
public import proofs.«01_k».proof.Proof.Pay0
public import proofs.«01_k».proof.Proof.Pay1
public import Idealize.ShloMosaic.Lib.Pipeline.ValueKit

@[expose] public section

set_option maxRecDepth 16384

noncomputable section

namespace Cert.KernelIdeal.Val

open Cert.KernelIdeal Cert.KernelIdeal.Gen Cert.Spec
open Idealize.ShloMosaic Idealize.ShloMosaic.TcCoe Idealize.SL.Sem
open Idealize.ShloMosaic.Pipeline (Dat)

variable (V : (c : Dev nD) → (b : Ref sig .tc) → Buf (Elt Ideal) ((c : Thread nD τ).loc b)) (c : Dev nD)

/-- The decoder output of row `R`, from the arrays the launch finds. -/
def rowO (R : Fin 4096) : Fin 512 → EReal :=
  dec (latent (enc (mat (V c main_arg0) R) (mat (V c main_arg2)) (row (V c main_call0_v2)) (mat (V c main_arg4))
        (row (V c main_call0_v3)) (mat (V c main_arg6)) (row (V c main_call0_v4))) (mat (V c main_arg16) R))
    (mat (V c main_arg1) R) (mat (V c main_call0_v0)) (mat (V c main_call0_v1)) (row (V c main_call0_v5))
    (mat (V c main_arg10)) (row (V c main_call0_v6)) (mat (V c main_arg12)) (row (V c main_call0_v7))

/-- The bucket of row `R`, from the arrays the launch finds. -/
def bucketO (R : Fin 4096) : BitVec 32 :=
  bucket (rowO V c R) (mat (V c main_arg14)) (row (V c main_call0_v8)) (row (V c main_call0_c))

/-- The output tile of point `t`. -/
def tileAt (t : Fin cfg0.N) : Vec Ideal S512x512 .f32 :=
  tile (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t)

/-- Row `r` of tile `t` is the decoder output of the row it stands for. -/
theorem tileAt_apply (t : Fin cfg0.N) (r j : Fin 512) : tileAt V c t (ix2 r j) = rowO V c (row0 t r) j := by
  unfold tileAt tile
  rw [pay7_apply]
  unfold rowO
  congr 1
  · funext k
    rw [pay3_apply, pay56_apply, pay4_apply, pay2_apply, pay2_apply, blk0_2]
    rw [show mat (iblk0 V c 0 t) r = mat (V c main_arg0) (row0 t r) from funext fun k => blk0_0 V c t r k]
    rw [blk0_3, blk0_4, blk0_5, blk0_6, blk0_7, blk0_8]
    rfl
  · exact funext fun k => blk0_1 V c t r k
  all_goals first | rw [blk0_9] | rw [blk0_10] | rw [blk0_11] | rw [blk0_12] | rw [blk0_13] | rw [blk0_14] | rw [blk0_15]

/-- After point `t` the output tile's block holds the tile. -/
theorem outs_19 (t : Fin cfg0.N) : (outsAt0 V c t.val t.isLt).1 = tileAt V c t := by
  by_cases h : t.val % 8 = 0
  · rw [outsAt0_A V c t h]
    dsimp only
    rw [out_A_19]
    rfl
  · rw [outsAt0_B V c t h]
    dsimp only
    rw [out_B_19]
    rfl

/-- The one-hot entry of a tile's row and a bucket. -/
theorem hot_apply (t : Fin cfg0.N) (r : Fin 512) (k : Fin 1024) :
    k0_pay8 (tileAt V c t) (iblk0 V c 16 t) (iblk0 V c 17 t) (iblk0 V c 18 t) (ix2 r k)
      = if bucketO V c (row0 t r) = BitVec.ofNat 32 k.val then (1 : EReal) else 0 := by
  rw [pay8_apply]
  rw [show mat (tileAt V c t) r = rowO V c (row0 t r) from funext fun j => tileAt_apply V c t r j, blk0_16, blk0_17, blk0_18]
  rfl

/-- What a tile adds to a bucket's row of sums. -/
def addS (t : Fin cfg0.N) (i : S1024x512.Idx) : EReal :=
  ∑ r : Fin 512, if bucketO V c (row0 t r) = BitVec.ofNat 32 (i 0).val then rowO V c (row0 t r) (i 1) else 0

/-- What a tile adds to a bucket's count. -/
def addN (t : Fin cfg0.N) (i : S1024x1.Idx) : EReal :=
  ∑ r : Fin 512, if bucketO V c (row0 t r) = BitVec.ofNat 32 (i 0).val then (1 : EReal) else 0

/-- One tile added to the sums. -/
theorem step_20 (t : Fin cfg0.N) (acc : Vec Ideal S1024x512 .f32) (i : S1024x512.Idx) :
    k0_pay12 (tileAt V c t) (iblk0 V c 16 t) (iblk0 V c 17 t) (iblk0 V c 18 t) acc i = acc i + addS V c t i := by
  idx_vars i
  rw [pay12_apply]
  unfold addS
  congr 1
  refine Finset.sum_congr rfl fun r _ => ?_
  rw [hot_apply, tileAt_apply]
  split <;> simp_all <;> rfl

/-- One tile added to the counts. -/
theorem step_21 (t : Fin cfg0.N) (acc : Vec Ideal S1024x1 .f32) (i : S1024x1.Idx) :
    k0_pay1 (k0_pay9 (tileAt V c t) (iblk0 V c 16 t) (iblk0 V c 17 t) (iblk0 V c 18 t)) (k0_pay13 acc) i
      = acc i + addN V c t i := by
  idx_vars i
  rw [pay13_eq]
  unfold k0_pay1
  rw [addf_apply, pay9_apply]
  unfold addN
  congr 1
  refine Finset.sum_congr rfl fun r _ => ?_
  rw [hot_apply, mul_one]
  rfl

/-- The sums after the last point, tile by tile. -/
theorem outs_20 (t : Fin cfg0.N) (ht : t.val + 1 = cfg0.N) (i : S1024x512.Idx) :
    (outsAt0 V c t.val t.isLt).2.1 i = ∑ p : Fin cfg0.N, addS V c p i := by
  rw [Pipeline.eq_sum_fin_of_reset_step_apply_last (fun n h => (outsAt0 V c n h).2.1) 8 (fun _ => (0 : EReal)) (addS V c)
    (fun t h i => by
      rw [outsAt0_A V c t h]
      dsimp only
      rw [out_A_20, show tile (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) = tileAt V c t from rfl, step_20, pay10_apply])
    (fun t h i => by
      rw [outsAt0_B V c t h]
      dsimp only
      rw [out_B_20, show tile (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) = tileAt V c t from rfl, step_20])
    (le_of_eq N_0) t ht i, zero_add]

/-- The counts after the last point, tile by tile. -/
theorem outs_21 (t : Fin cfg0.N) (ht : t.val + 1 = cfg0.N) (i : S1024x1.Idx) :
    (outsAt0 V c t.val t.isLt).2.2 i = ∑ p : Fin cfg0.N, addN V c p i := by
  rw [Pipeline.eq_sum_fin_of_reset_step_apply_last (fun n h => (outsAt0 V c n h).2.2) 8 (fun _ => (0 : EReal)) (addN V c)
    (fun t h i => by
      rw [outsAt0_A V c t h]
      dsimp only
      rw [out_A_21, show tile (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) = tileAt V c t from rfl, step_21, pay11_apply])
    (fun t h i => by
      rw [outsAt0_B V c t h]
      dsimp only
      rw [out_B_21, show tile (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) = tileAt V c t from rfl, step_21])
    (le_of_eq N_0) t ht i, zero_add]

/-- A sum over the tiles and the rows of a tile is the sum over all rows. -/
theorem sum_rows (f : Fin 4096 → EReal) : ∑ p : Fin cfg0.N, ∑ r : Fin 512, f (row0 p r) = ∑ R, f R := by
  rw [← (finProdFinEquiv (m := 8) (n := 512)).sum_comp f, Fintype.sum_prod_type]
  refine Finset.sum_congr rfl fun p _ => Finset.sum_congr rfl fun r _ => congrArg f (Fin.ext ?_)
  show p.val * 512 + r.val = r.val + 512 * p.val
  omega

/-- A function of a row and a column as an array. -/
def arrO (G : Fin 4096 → Fin 512 → EReal) (i : S4096x512.Idx) : EReal := G (i 0) (i 1)

/-- The first launch's rows at the end. -/
theorem arr_19 : (dat0 V c).arrAt 19 cfg0.N = arrO (rowO V c) := by
  refine (dat0 V c).arrAt_eq_of_cover 19 (arrO (rowO V c)) (fun t hf => ?_) (fun i => ?_)
  · have hi : win0_19.index t 0 = t.val ∧ win0_19.index t 1 = 0 := by
      rcases fin_N0 t with rfl | rfl | rfl | rfl | rfl | rfl | rfl | rfl <;> decide
    show (cfg0.win 19).cut (grid0.coords t) ((dat0 V c).after 19 t) = _
    rw [after0_19, outs_19]
    have hT := tileAt_apply V c t
    generalize tileAt V c t = T at hT
    generalize rowO V c = G at hT
    funext y
    obtain ⟨r, j, rfl⟩ : ∃ (r j : Fin 512), y = ix2 r j := ⟨y 0, y 1, eq_ix2 y⟩
    refine Eq.trans (show _ = T (ix2 r j) from rfl) ?_
    rw [hT, View.read_apply]
    show arrO G (ix2 (row0 t r) j) = arrO G _
    congr 1
    funext a
    apply Fin.ext
    match a with
    | ⟨0, _⟩ => show t.val * 512 + r.val = win0_19.index t 0 * 512 + 1 * r.val; rw [hi.1]; omega
    | ⟨1, _⟩ => show j.val = win0_19.index t 1 * 512 + 1 * j.val; rw [hi.2]; omega
  · have h0 : (i 0 : Nat) < 4096 := (i 0).isLt
    have h1 : (i 1 : Nat) < 512 := (i 1).isLt
    have hN : cfg0.N = 8 := N_0
    refine ⟨⟨(i 0 : Nat) / 512, by omega⟩, flush0_19 _, ?_⟩
    generalize ht : (⟨(i 0 : Nat) / 512, by omega⟩ : Fin cfg0.N) = t
    have htv : (i 0 : Nat) / 512 = t.val := congrArg Fin.val ht
    have hi : win0_19.index t 0 = t.val ∧ win0_19.index t 1 = 0 := by
      rcases fin_N0 t with rfl | rfl | rfl | rfl | rfl | rfl | rfl | rfl <;> decide
    show i ∈ ((View.whole main_call0_v9_0).slice (win0_19.rect t)).set
    rw [View.set_slice_whole, Rect.mem_set_unit]
    intro a
    match a with
    | ⟨0, _⟩ =>
      show win0_19.index t 0 * 512 ≤ (i 0 : Nat) ∧ (i 0 : Nat) < win0_19.index t 0 * 512 + 512
      rw [hi.1]; omega
    | ⟨1, _⟩ =>
      show win0_19.index t 1 * 512 ≤ (i 1 : Nat) ∧ (i 1 : Nat) < win0_19.index t 1 * 512 + 512
      rw [hi.2]; omega

/-- The bucket sums at the end. -/
theorem arr_20 : (dat0 V c).arrAt 20 cfg0.N = fun i : S1024x512.Idx => sums (bucketO V c) (rowO V c) (i 0) (i 1) := by
  have hN : cfg0.N = 8 := N_0
  have hz : (fun a => win0_20.index t0_7 a * main_call0_v9_1.ty.shape.size a) = fun _ => 0 := funext fun a => by fin_cases a <;> rfl
  refine (dat0 V c).arrAt_eq_of_cover 20 (fun i : S1024x512.Idx => sums (bucketO V c) (rowO V c) (i 0) (i 1)) (fun t hf => ?_) (fun i => ?_)
  · have h7 : t.val = 7 := by have := (flush0_20 t).mp hf; have := t.isLt; omega
    obtain rfl : t = t0_7 := Fin.ext h7
    show (cfg0.win 20).cut (grid0.coords t0_7) ((dat0 V c).after 20 t0_7) = _
    rw [after0_20]
    refine Eq.trans ?_ (Memref.read_access_unit_zero (Elt Ideal) main_call0_v9_1 hz (fun a => by rw [congrFun hz a]; simp)
      (fun i : S1024x512.Idx => sums (bucketO V c) (rowO V c) (i 0) (i 1))).symm
    funext i
    refine (outs_20 V c t0_7 (show t0_7.val + 1 = cfg0.N from hN.symm) i).trans ?_
    exact sum_rows fun R => if bucketO V c R = BitVec.ofNat 32 (i 0).val then rowO V c R (i 1) else 0
  · refine ⟨t0_7, (flush0_20 t0_7).mpr rfl, ?_⟩
    show i ∈ ((View.whole main_call0_v9_1).slice (win0_20.rect t0_7)).set
    have h0 : (i 0 : Nat) < 1024 := (i 0).isLt
    have h1 : (i 1 : Nat) < 512 := (i 1).isLt
    rw [View.set_slice_whole, Rect.mem_set_unit]
    intro a
    match a with
    | ⟨0, _⟩ => exact ⟨Nat.zero_le _, by show (i 0 : Nat) < 0 + 1024; omega⟩
    | ⟨1, _⟩ => exact ⟨Nat.zero_le _, by show (i 1 : Nat) < 0 + 512; omega⟩

/-- The bucket counts at the end. -/
theorem arr_21 : (dat0 V c).arrAt 21 cfg0.N = fun i : S1024x1.Idx => counts (bucketO V c) (i 0) := by
  have hN : cfg0.N = 8 := N_0
  have hz : (fun a => win0_21.index t0_7 a * main_call0_v9_2.ty.shape.size a) = fun _ => 0 := funext fun a => by fin_cases a <;> rfl
  refine (dat0 V c).arrAt_eq_of_cover 21 (fun i : S1024x1.Idx => counts (bucketO V c) (i 0)) (fun t hf => ?_) (fun i => ?_)
  · have h7 : t.val = 7 := by have := (flush0_21 t).mp hf; have := t.isLt; omega
    obtain rfl : t = t0_7 := Fin.ext h7
    show (cfg0.win 21).cut (grid0.coords t0_7) ((dat0 V c).after 21 t0_7) = _
    rw [after0_21]
    refine Eq.trans ?_ (Memref.read_access_unit_zero (Elt Ideal) main_call0_v9_2 hz (fun a => by rw [congrFun hz a]; simp)
      (fun i : S1024x1.Idx => counts (bucketO V c) (i 0))).symm
    funext i
    refine (outs_21 V c t0_7 (show t0_7.val + 1 = cfg0.N from hN.symm) i).trans ?_
    exact sum_rows fun R => if bucketO V c R = BitVec.ofNat 32 (i 0).val then (1 : EReal) else 0
  · refine ⟨t0_7, (flush0_21 t0_7).mpr rfl, ?_⟩
    show i ∈ ((View.whole main_call0_v9_2).slice (win0_21.rect t0_7)).set
    have h0 : (i 0 : Nat) < 1024 := (i 0).isLt
    have h1 : (i 1 : Nat) < 1 := (i 1).isLt
    rw [View.set_slice_whole, Rect.mem_set_unit]
    intro a
    match a with
    | ⟨0, _⟩ => exact ⟨Nat.zero_le _, by show (i 0 : Nat) < 0 + 1024; omega⟩
    | ⟨1, _⟩ => exact ⟨Nat.zero_le _, by show (i 1 : Nat) < 0 + 1; omega⟩

end Cert.KernelIdeal.Val

end
-- ==== Proof.Region1.lean ====
/-
  What the second launch leaves in the result array: every row's soft assignment to the bucket means.
-/
module

public import proofs.«01_k».proof.Proof.Blocks
public import proofs.«01_k».proof.Proof.Pay1

@[expose] public section

set_option maxRecDepth 16384

noncomputable section

namespace Cert.KernelIdeal.Val

open Cert.KernelIdeal Cert.KernelIdeal.Gen Cert.Spec
open Idealize.ShloMosaic Idealize.ShloMosaic.TcCoe Idealize.SL.Sem
open Idealize.ShloMosaic.Pipeline (Dat)

variable (V : (c : Dev nD) → (b : Ref sig .tc) → Buf (Elt Ideal) ((c : Thread nD τ).loc b)) (c : Dev nD)

/-- The zero offsets of a rank-2 rectangle, in the second launch's reads. -/
theorem hz2' : (![0, 0] : Fin 2 → Nat) = fun _ => 0 := funext fun a => by fin_cases a <;> rfl

/-- The assignment of row `R`, from the arrays the launch finds. -/
def rowQ (R : Fin 4096) : Fin 1024 → EReal :=
  assign (mat (V c main_call0_v9_0) R) (means (mat (V c main_call0_v9_1)) fun k => V c main_call0_v9_2 (ix2 k 0))

/-- A function of a row and a bucket as an array. -/
def arrQ (G : Fin 4096 → Fin 1024 → EReal) (i : S4096x1024.Idx) : EReal := G (i 0) (i 1)

/-- Row `r` of tile `t`, as the body leaves it. -/
theorem out1_apply (t : Fin cfg1.N) (r : Fin 512) (j : Fin 1024) :
    out1_3 (iblk1 V c 0 t) (iblk1 V c 1 t) (iblk1 V c 2 t) (ix2 r j) = rowQ V c (row1 t r) j := by
  have h : out1_3 (iblk1 V c 0 t) (iblk1 V c 1 t) (iblk1 V c 2 t) = k1_pay1 (iblk1 V c 0 t) (iblk1 V c 1 t) (iblk1 V c 2 t) := by
    unfold out1_3
    rw [View.canon_unit_zero (S := S512x1024) hz2', View.ld_unit_zero (S := S512x512) hz2', View.ld_unit_zero (S := S1024x512) hz2',
      View.ld_unit_zero (S := S1024x1) hz2']
  rw [h, k1_pay1_apply]
  unfold rowQ
  rw [show mat (iblk1 V c 0 t) r = mat (V c main_call0_v9_0) (row1 t r) from funext fun k => blk1_0 V c t r k, blk1_1, blk1_2]

/-- The second launch's result at the end. -/
theorem arr1_3 : (dat1 V c).arrAt 3 cfg1.N = arrQ (rowQ V c) := by
  refine (dat1 V c).arrAt_eq_of_cover 3 (arrQ (rowQ V c)) (fun t hf => ?_) (fun i => ?_)
  · have hi : win1_3.index t 0 = t.val ∧ win1_3.index t 1 = 0 := by
      rcases fin_N1 t with rfl | rfl | rfl | rfl | rfl | rfl | rfl | rfl <;> decide
    show (cfg1.win 3).cut (grid1.coords t) ((dat1 V c).after 3 t) = _
    rw [after1_3]
    have hT := out1_apply V c t
    generalize out1_3 (iblk1 V c 0 t) (iblk1 V c 1 t) (iblk1 V c 2 t) = T at hT
    generalize rowQ V c = G at hT
    funext y
    obtain ⟨r, j, rfl⟩ : ∃ (r : Fin 512) (j : Fin 1024), y = ix2 r j := ⟨y 0, y 1, eq_ix2 y⟩
    refine Eq.trans (show _ = T (ix2 r j) from rfl) ?_
    rw [hT, View.read_apply]
    show arrQ G (ix2 (row1 t r) j) = arrQ G _
    congr 1
    funext a
    apply Fin.ext
    match a with
    | ⟨0, _⟩ => show t.val * 512 + r.val = win1_3.index t 0 * 512 + 1 * r.val; rw [hi.1]; omega
    | ⟨1, _⟩ => show j.val = win1_3.index t 1 * 1024 + 1 * j.val; rw [hi.2]; omega
  · have h0 : (i 0 : Nat) < 4096 := (i 0).isLt
    have h1 : (i 1 : Nat) < 1024 := (i 1).isLt
    have hN : cfg1.N = 8 := N_1
    refine ⟨⟨(i 0 : Nat) / 512, by omega⟩, flush1_3 _, ?_⟩
    generalize ht : (⟨(i 0 : Nat) / 512, by omega⟩ : Fin cfg1.N) = t
    have htv : (i 0 : Nat) / 512 = t.val := congrArg Fin.val ht
    have hi : win1_3.index t 0 = t.val ∧ win1_3.index t 1 = 0 := by
      rcases fin_N1 t with rfl | rfl | rfl | rfl | rfl | rfl | rfl | rfl <;> decide
    show i ∈ ((View.whole main_v0).slice (win1_3.rect t)).set
    rw [View.set_slice_whole, Rect.mem_set_unit]
    intro a
    match a with
    | ⟨0, _⟩ =>
      show win1_3.index t 0 * 512 ≤ (i 0 : Nat) ∧ (i 0 : Nat) < win1_3.index t 0 * 512 + 512
      rw [hi.1]; omega
    | ⟨1, _⟩ =>
      show win1_3.index t 1 * 1024 ≤ (i 1 : Nat) ∧ (i 1 : Nat) < win1_3.index t 1 * 1024 + 1024
      rw [hi.2]; omega

end Cert.KernelIdeal.Val

end
-- ==== Proof.Prefix.lean ====
/-
  What the host operations before the first launch leave in the arrays it reads: the decoder's first matrix cut in
  two, the biases as one-row arrays, and the table of primes.
-/
module

public import proofs.«01_k».proof.Proof.Gen.KernelIdeal.Frame
public import proofs.«01_k».proof.Proof.Spec
public import Idealize.ShloMosaic.Lib.StableHlo.Run

@[expose] public section

set_option maxRecDepth 16384

noncomputable section

namespace Cert.KernelIdeal.Val

open Cert.KernelIdeal Cert.KernelIdeal.Gen Cert.Spec
open Idealize.ShloMosaic Idealize.ShloMosaic.TcCoe Idealize.SL.Sem

variable (X : Valuation τ sig (Elt Ideal))

/-- The one row of `v2` is argument 3. -/
theorem pre_v2 : row (N := 512) (StableHlo.after hostOps0 X (Proc.devRef .tc main_call0_v2))
    = vec (N := 512) (X (Proc.devRef .tc main_arg3)) := by
  have h : StableHlo.after hostOps0 X (Proc.devRef .tc main_call0_v2)
      = shapeCast S1x512 (X (Proc.devRef .tc main_arg3)) shapeCasts_S512_S1x512 := by
    unfold hostOps0
    after_results
    rfl
  rw [h]
  generalize X (Proc.devRef .tc main_arg3) = y
  funext j
  unfold row vec
  pointwise

/-- The one row of `v3` is argument 5. -/
theorem pre_v3 : row (N := 1024) (StableHlo.after hostOps0 X (Proc.devRef .tc main_call0_v3))
    = vec (N := 1024) (X (Proc.devRef .tc main_arg5)) := by
  have h : StableHlo.after hostOps0 X (Proc.devRef .tc main_call0_v3)
      = shapeCast S1x1024 (X (Proc.devRef .tc main_arg5)) shapeCasts_S1024_S1x1024 := by
    unfold hostOps0
    after_results
    rfl
  rw [h]
  generalize X (Proc.devRef .tc main_arg5) = y
  funext j
  unfold row vec
  pointwise

/-- The one row of `v4` is argument 7. -/
theorem pre_v4 : row (N := 256) (StableHlo.after hostOps0 X (Proc.devRef .tc main_call0_v4))
    = vec (N := 256) (X (Proc.devRef .tc main_arg7)) := by
  have h : StableHlo.after hostOps0 X (Proc.devRef .tc main_call0_v4)
      = shapeCast S1x256 (X (Proc.devRef .tc main_arg7)) shapeCasts_S256_S1x256 := by
    unfold hostOps0
    after_results
    rfl
  rw [h]
  generalize X (Proc.devRef .tc main_arg7) = y
  funext j
  unfold row vec
  pointwise

/-- The one row of `v5` is argument 9. -/
theorem pre_v5 : row (N := 1024) (StableHlo.after hostOps0 X (Proc.devRef .tc main_call0_v5))
    = vec (N := 1024) (X (Proc.devRef .tc main_arg9)) := by
  have h : StableHlo.after hostOps0 X (Proc.devRef .tc main_call0_v5)
      = shapeCast S1x1024 (X (Proc.devRef .tc main_arg9)) shapeCasts_S1024_S1x1024 := by
    unfold hostOps0
    after_results
    rfl
  rw [h]
  generalize X (Proc.devRef .tc main_arg9) = y
  funext j
  unfold row vec
  pointwise

/-- The one row of `v6` is argument 11. -/
theorem pre_v6 : row (N := 512) (StableHlo.after hostOps0 X (Proc.devRef .tc main_call0_v6))
    = vec (N := 512) (X (Proc.devRef .tc main_arg11)) := by
  have h : StableHlo.after hostOps0 X (Proc.devRef .tc main_call0_v6)
      = shapeCast S1x512 (X (Proc.devRef .tc main_arg11)) shapeCasts_S512_S1x512 := by
    unfold hostOps0
    after_results
    rfl
  rw [h]
  generalize X (Proc.devRef .tc main_arg11) = y
  funext j
  unfold row vec
  pointwise

/-- The one row of `v7` is argument 13. -/
theorem pre_v7 : row (N := 512) (StableHlo.after hostOps0 X (Proc.devRef .tc main_call0_v7))
    = vec (N := 512) (X (Proc.devRef .tc main_arg13)) := by
  have h : StableHlo.after hostOps0 X (Proc.devRef .tc main_call0_v7)
      = shapeCast S1x512 (X (Proc.devRef .tc main_arg13)) shapeCasts_S512_S1x512 := by
    unfold hostOps0
    after_results
    rfl
  rw [h]
  generalize X (Proc.devRef .tc main_arg13) = y
  funext j
  unfold row vec
  pointwise

/-- The one row of `v8` is argument 15. -/
theorem pre_v8 : row (N := 16) (StableHlo.after hostOps0 X (Proc.devRef .tc main_call0_v8))
    = vec (N := 16) (X (Proc.devRef .tc main_arg15)) := by
  have h : StableHlo.after hostOps0 X (Proc.devRef .tc main_call0_v8)
      = shapeCast S1x16 (X (Proc.devRef .tc main_arg15)) shapeCasts_S16_S1x16 := by
    unfold hostOps0
    after_results
    rfl
  rw [h]
  generalize X (Proc.devRef .tc main_arg15) = y
  funext j
  unfold row vec
  pointwise

/-- The first 128 rows of the decoder's first matrix. -/
theorem pre_v0 (k : Fin 128) (j : Fin 1024) : mat (K := 128) (N := 1024) (StableHlo.after hostOps0 X (Proc.devRef .tc main_call0_v0)) k j
    = mat (K := 138) (N := 1024) (X (Proc.devRef .tc main_arg8)) ⟨k.val, by omega⟩ j := by
  have h : StableHlo.after hostOps0 X (Proc.devRef .tc main_call0_v0)
      = extractStridedSlice S128x1024 ![0, 0] (X (Proc.devRef .tc main_arg8)) slices_S138x1024_S128x1024_0_0 := by
    unfold hostOps0
    after_results
    rfl
  rw [h]
  generalize X (Proc.devRef .tc main_arg8) = y
  unfold mat
  pointwise

/-- The last ten rows of the decoder's first matrix. -/
theorem pre_v1 (k : Fin 10) (j : Fin 1024) : mat (K := 10) (N := 1024) (StableHlo.after hostOps0 X (Proc.devRef .tc main_call0_v1)) k j
    = mat (K := 138) (N := 1024) (X (Proc.devRef .tc main_arg8)) ⟨128 + k.val, by omega⟩ j := by
  have h : StableHlo.after hostOps0 X (Proc.devRef .tc main_call0_v1)
      = extractStridedSlice S10x1024 ![128, 0] (X (Proc.devRef .tc main_arg8)) slices_S138x1024_S10x1024_128_0 := by
    unfold hostOps0
    after_results
    rfl
  rw [h]
  generalize X (Proc.devRef .tc main_arg8) = y
  unfold mat
  pointwise

/-- The table of primes. -/
theorem pre_c (j : Fin 16) : row (N := 16) (StableHlo.after hostOps0 X (Proc.devRef .tc main_call0_c)) j = lit0 j := by
  have h : StableHlo.after hostOps0 X (Proc.devRef .tc main_call0_c) = fun i => lit0 (S1x16.rowMajor i) := by
    unfold hostOps0
    after_results
    rfl
  rw [h]
  unfold row
  refine congrArg lit0 ?_
  fin_cases j <;> rfl

end Cert.KernelIdeal.Val

end
-- ==== Proof.KernelRun.lean ====
/-
  The kernel's run with its result: every execution ends, the result array holds what the second launch's
  write-backs leave in it, and the arguments are as they were.
-/
module

public import proofs.«01_k».proof.Proof.Gen.KernelIdeal.Frame

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The separation algebra the run's assertions are over. -/
local notation "𝕄" => MT nD τ sig Unit (Elt F) ℕ (UR sig nD τ) ℕ

variable (m : (ℓ : Loc nD τ sig) → Buf (Elt F) ℓ) (ρ : Dev nD → PrngReg)

-- plain definitions in a metavariable's type
set_option backward.isDefEq.respectTransparency.types false in
/-- The kernel's run: the result array and the arguments at the end. The set-up is the frame's. -/
theorem run : θ_run defs (onTc (τ := τ) (main (F := F))) ⟨m, fun _ => 0, ρ⟩ (fun r => ∀ c : Dev nD,
      r.2.mem ((c.tc : Thread nD τ).loc main_v0) = (dat1 (V2 m ρ) c).arrAt (3 : Fin 4) cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ c =>
      ⟨(h c _ (mem_uc main_v0 (by decide))).trans (W3_arr m ρ c (3 : Fin 4)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c),
       (h c _ (mem_uc main_arg7 (by decide))).trans (W3_main_arg7 m ρ c),
       (h c _ (mem_uc main_arg8 (by decide))).trans (W3_main_arg8 m ρ c),
       (h c _ (mem_uc main_arg9 (by decide))).trans (W3_main_arg9 m ρ c),
       (h c _ (mem_uc main_arg10 (by decide))).trans (W3_main_arg10 m ρ c),
       (h c _ (mem_uc main_arg11 (by decide))).trans (W3_main_arg11 m ρ c),
       (h c _ (mem_uc main_arg12 (by decide))).trans (W3_main_arg12 m ρ c),
       (h c _ (mem_uc main_arg13 (by decide))).trans (W3_main_arg13 m ρ c),
       (h c _ (mem_uc main_arg14 (by decide))).trans (W3_main_arg14 m ρ c),
       (h c _ (mem_uc main_arg15 (by decide))).trans (W3_main_arg15 m ρ c),
       (h c _ (mem_uc main_arg16 (by decide))).trans (W3_main_arg16 m ρ c)⟩)

end Cert.KernelIdeal.Val

end
-- ==== Proof.KernelValue.lean ====
/-
  The kernel's result array as the specification of its arguments: the host prefix, the first launch's arrays and the
  second launch put together.
-/
module

public import proofs.«01_k».proof.Proof.Region0
public import proofs.«01_k».proof.Proof.Region1
public import proofs.«01_k».proof.Proof.Prefix
public import proofs.«01_k».proof.Proof.KernelRun

@[expose] public section

set_option maxRecDepth 16384

noncomputable section

namespace Cert.KernelIdeal.Val

open Cert.KernelIdeal Cert.KernelIdeal.Gen Cert.Spec
open Idealize.ShloMosaic Idealize.ShloMosaic.TcCoe Idealize.SL.Sem

variable (m : (ℓ : Loc nD τ sig) → Buf (Elt Ideal) ℓ) (ρ : Dev nD → PrngReg) (c : Dev nD)

/-- The arguments of a launch memory. -/
def args : Args :=
  Args.of (m ((c : Thread nD τ).loc main_arg0))
    (m ((c : Thread nD τ).loc main_arg1))
    (m ((c : Thread nD τ).loc main_arg2))
    (m ((c : Thread nD τ).loc main_arg3))
    (m ((c : Thread nD τ).loc main_arg4))
    (m ((c : Thread nD τ).loc main_arg5))
    (m ((c : Thread nD τ).loc main_arg6))
    (m ((c : Thread nD τ).loc main_arg7))
    (m ((c : Thread nD τ).loc main_arg8))
    (m ((c : Thread nD τ).loc main_arg9))
    (m ((c : Thread nD τ).loc main_arg10))
    (m ((c : Thread nD τ).loc main_arg11))
    (m ((c : Thread nD τ).loc main_arg12))
    (m ((c : Thread nD τ).loc main_arg13))
    (m ((c : Thread nD τ).loc main_arg14))
    (m ((c : Thread nD τ).loc main_arg15))
    (m ((c : Thread nD τ).loc main_arg16))

/-- The table of primes, entry by entry. -/
theorem lit0_eq (j : Fin 16) : lit0 j = primes j := by fin_cases j <;> rfl

/-- The first launch's rows are the specification's. -/
theorem rowO_eq : rowO (V1 m ρ) c = (args m c).out := by
  funext R
  have h (r : Ref sig .tc) (hr : r ∈ argRefs) : V1 m ρ c r = m ((c : Thread nD τ).loc r) := W1_args m ρ c r hr
  unfold rowO Args.out
  rw [h main_arg0 (by decide), h main_arg2 (by decide), h main_arg4 (by decide), h main_arg6 (by decide), h main_arg16 (by decide), h main_arg1 (by decide), h main_arg10 (by decide), h main_arg12 (by decide)]
  rw [show row (N := 512) (V1 m ρ c main_call0_v2) = _ from pre_v2 (W0 m ρ c), show row (N := 1024) (V1 m ρ c main_call0_v3) = _ from pre_v3 (W0 m ρ c), show row (N := 256) (V1 m ρ c main_call0_v4) = _ from pre_v4 (W0 m ρ c), show row (N := 1024) (V1 m ρ c main_call0_v5) = _ from pre_v5 (W0 m ρ c), show row (N := 512) (V1 m ρ c main_call0_v6) = _ from pre_v6 (W0 m ρ c), show row (N := 512) (V1 m ρ c main_call0_v7) = _ from pre_v7 (W0 m ρ c)]
  rw [show mat (K := 128) (N := 1024) (V1 m ρ c main_call0_v0) = _ from funext fun k => funext fun j => pre_v0 (W0 m ρ c) k j]
  rw [show mat (K := 10) (N := 1024) (V1 m ρ c main_call0_v1) = _ from funext fun k => funext fun j => pre_v1 (W0 m ρ c) k j]
  rfl

/-- The first launch's buckets are the specification's. -/
theorem bucketO_eq : bucketO (V1 m ρ) c = (args m c).bkt := by
  funext R
  unfold bucketO Args.bkt
  rw [rowO_eq]
  rw [show V1 m ρ c main_arg14 = _ from W1_args m ρ c main_arg14 (by decide)]
  rw [show row (N := 16) (V1 m ρ c main_call0_v8) = _ from pre_v8 (W0 m ρ c)]
  rw [show row (N := 16) (V1 m ρ c main_call0_c) = primes from funext fun j => (pre_c (W0 m ρ c) j).trans (lit0_eq j)]
  rfl

/-- The kernel's result array. -/
theorem result_eq : (dat1 (V2 m ρ) c).arrAt (3 : Fin 4) cfg1.N = arrQ (args m c).result := by
  refine (arr1_3 (V2 m ρ) c).trans (congrArg arrQ (funext fun R => ?_))
  unfold rowQ Args.result
  rw [show V2 m ρ c main_call0_v9_0 = arrO (args m c).out from
    (W2_arr m ρ c (19 : Fin 22)).trans ((arr_19 (V1 m ρ) c).trans (congrArg arrO (rowO_eq m ρ c)))]
  rw [show V2 m ρ c main_call0_v9_1 = fun i : S1024x512.Idx => sums (args m c).bkt (args m c).out (i 0) (i 1) from
    (W2_arr m ρ c (20 : Fin 22)).trans ((arr_20 (V1 m ρ) c).trans (by rw [rowO_eq, bucketO_eq]))]
  rw [show V2 m ρ c main_call0_v9_2 = fun i : S1024x1.Idx => counts (args m c).bkt (i 0) from
    (W2_arr m ρ c (21 : Fin 22)).trans ((arr_21 (V1 m ρ) c).trans (by rw [bucketO_eq]))]
  rfl

end Cert.KernelIdeal.Val

end
-- ==== Proof.RefRows.lean ====
/-
  The reference's rows: the encoder's row, the latent sample and the decoder's row, one entry at a time, in the words
  of Spec.lean.
-/
module

public import proofs.«01_k».proof.Proof.Gen.ReferenceIdeal.Run
public import proofs.«01_k».proof.Proof.Spec
public import Idealize.ShloMosaic.Lib.Tactic.CleanTypes

@[expose] public section

set_option maxRecDepth 16384

noncomputable section

namespace Cert.ReferenceIdeal.Val

open Cert.ReferenceIdeal Cert.ReferenceIdeal.Value Cert.Spec
open Idealize.ShloMosaic Idealize.ShloMosaic.TcCoe Idealize.SL.Sem

variable (X : Valuation τ sig (Elt Ideal))

/-- The arguments of a launch's buffers. -/
def args : Args :=
  Args.of (X (Proc.devRef .tc main_arg0)) (X (Proc.devRef .tc main_arg1)) (X (Proc.devRef .tc main_arg2)) (X (Proc.devRef .tc main_arg3))
    (X (Proc.devRef .tc main_arg4)) (X (Proc.devRef .tc main_arg5)) (X (Proc.devRef .tc main_arg6)) (X (Proc.devRef .tc main_arg7))
    (X (Proc.devRef .tc main_arg8)) (X (Proc.devRef .tc main_arg9)) (X (Proc.devRef .tc main_arg10)) (X (Proc.devRef .tc main_arg11))
    (X (Proc.devRef .tc main_arg12)) (X (Proc.devRef .tc main_arg13)) (X (Proc.devRef .tc main_arg14)) (X (Proc.devRef .tc main_arg15))
    (X (Proc.devRef .tc main_arg16))

/-- The encoder's row of row `R`. -/
def encR (R : Fin 4096) : Fin 256 → EReal :=
  enc ((args X).x R) (args X).We1 (args X).be1 (args X).We2 (args X).be2 (args X).We3 (args X).be3

/-- The encoder's array at an entry. -/
theorem v13_apply (R : Fin 4096) (j : Fin 256) : res_main_v13 X (ix2 R j) = encR X R j := by
  unfold encR enc dense relu args Args.of mat vec
  dsimp only
  unfold res_main_v13
  clean_types
  pointwise

/-- The raw scale, shifted by its constant, at an entry. -/
theorem v17_apply (R : Fin 4096) (j : Fin 128) :
    res_main_v17 X (ix2 R j) = encR X R ⟨128 + j.val, by omega⟩ + Ideal.ofBits .f32 0x3F0A9444#32 := by
  have h := v13_apply X R ⟨128 + j.val, by omega⟩
  unfold res_main_v17
  generalize res_main_v13 X = T at *
  clean_types
  pointwise
  rw [h]

/-- Subtracting the zero constant changes nothing. -/
theorem call2_v3_apply (R : Fin 4096) (j : Fin 128) : res_main_call2_v3 X (ix2 R j) = res_main_v17 X (ix2 R j) := by
  unfold res_main_call2_v3 res_main_call2_cst
  generalize res_main_v17 X = T at *
  clean_types
  pointwise

/-- The decoder's array at an entry. -/
theorem v35_apply (R : Fin 4096) (j : Fin 512) : res_main_v35 X (ix2 R j) = (args X).out R j := by
  have h13 := v13_apply X R
  have h17 := v17_apply X R
  have h3 := call2_v3_apply X R
  unfold res_main_v35 res_main_call2_cst
  generalize res_main_v13 X = T13 at *
  generalize res_main_v17 X = T17 at *
  generalize res_main_call2_v3 X = T3 at *
  clean_types
  pointwise
  simp only [h3, h13, h17, ne_eq, not_true_eq_false, if_false]
  rfl

end Cert.ReferenceIdeal.Val

end
-- ==== Proof.Words.lean ====
/-
  Facts about 32-bit words: the remainder by 1024 with its sign corrected is the low ten bits.
-/
module

public import Idealize.ShloMosaic.Lib.Pointwise
public import Idealize.ShloMosaic.Lib.Affine

@[expose] public section

noncomputable section

namespace Cert.Spec

open Idealize.ShloMosaic

/-- The low ten bits as a natural number. -/
theorem toNat_and_1023 (x : BitVec 32) : (x &&& 1023#32).toNat = x.toNat % 1024 := by
  rw [BitVec.toNat_and]
  exact Nat.and_two_pow_sub_one_eq_mod x.toNat 10

/-- The remainder by 1024, corrected where it is negative, is the low ten bits. -/
theorem corrected_rem (x y : BitVec 32) (hy : y = IntOp.remsi .host x 1024#32) :
    Scalar.select (IntOp.andi (IntOp.cmpi .ne (IntOp.cmpi .slt y 0#32) (IntOp.cmpi .slt 1024#32 0#32)) (IntOp.cmpi .ne y 0#32))
      (IntOp.addi y 1024#32) y = x &&& 1023#32 := by
  rw [IntOp.remsi_of_pos .host (by decide)] at hy
  have h1 : y.toInt = x.toInt.tmod 1024 := by rw [hy, BitVec.toInt_srem]; rfl
  have h2 : y.toInt = x.toInt % 1024 ∨ (y.toInt = x.toInt % 1024 - 1024 ∧ x.toInt % 1024 ≠ 0) := by
    rw [h1, Int.tmod_eq_emod]
    split
    · left; omega
    · rename_i h
      right
      refine ⟨by simp, fun h0 => h (.inr (Int.dvd_of_emod_eq_zero h0))⟩
  have hx := BitVec.toInt_eq_toNat_cond x
  have hyc := BitVec.toInt_eq_toNat_cond y
  have hxl := x.isLt
  have hyl := y.isLt
  have hr := toNat_and_1023 x
  by_cases hs : y.toInt < 0
  · have hslt : IntOp.cmpi .slt y 0#32 = 1#1 := by
      simp only [IntOp.cmpi, BitVec.slt]
      have : decide (y.toInt < (0#32).toInt) = true := by simpa using hs
      rw [this]; rfl
    have hne : IntOp.cmpi .ne y 0#32 = 1#1 := by
      have : y ≠ 0#32 := by rintro rfl; simp at hs
      show BitVec.ofBool (y != 0#32) = 1#1
      rw [bne_iff_ne.2 this]; rfl
    rw [hslt, hne]
    show IntOp.addi y 1024#32 = _
    apply BitVec.eq_of_toNat_eq
    rw [hr]
    show (y + 1024#32).toNat = _
    rw [BitVec.toNat_add]
    simp only [BitVec.toNat_ofNat]
    split at hx <;> split at hyc <;> omega
  · have hslt : IntOp.cmpi .slt y 0#32 = 0#1 := by
      simp only [IntOp.cmpi, BitVec.slt]
      have : decide (y.toInt < (0#32).toInt) = false := by simpa using hs
      rw [this]; rfl
    rw [hslt]
    have : IntOp.andi (IntOp.cmpi .ne 0#1 (IntOp.cmpi .slt 1024#32 0#32)) (IntOp.cmpi .ne y 0#32) = 0#1 := by
      rw [show IntOp.cmpi .ne 0#1 (IntOp.cmpi .slt 1024#32 0#32) = 0#1 by decide]
      exact BitVec.zero_and
    rw [this]
    show y = _
    apply BitVec.eq_of_toNat_eq
    rw [hr]
    split at hx <;> split at hyc <;> omega

/-- A word read as a signed number is a number below 1024 exactly when it is that number's word. -/
theorem toInt_eq_iff (x : BitVec 32) (k : Fin 1024) : x.toInt = (k.val : Int) ↔ x = BitVec.ofNat 32 k.val := by
  have hx := BitVec.toInt_eq_toNat_cond x
  have hxl := x.isLt
  have hk := k.isLt
  constructor
  · intro h
    apply BitVec.eq_of_toNat_eq
    rw [BitVec.toNat_ofNat]
    split at hx <;> omega
  · rintro rfl
    rw [BitVec.toNat_ofNat] at hx
    split at hx <;> omega

end Cert.Spec

end
-- ==== Proof.Consts.lean ====
/-
  The float constants of the two programs as numbers, and two facts about them: dividing by four is multiplying by a
  quarter, and a factor two inside a sum of products comes out of the sum.
-/
module

public import Idealize.ShloMosaic.Lib.Pointwise

@[expose] public section

noncomputable section

namespace Cert.Spec

open Idealize.ShloMosaic

/-- The word of the constant 2 is the number 2. -/
theorem ofBits_two : Ideal.ofBits .f32 0x40000000#32 = ((2 : ℝ) : EReal) := by
  simp [Ideal.ofBits, Ideal.ieee, -EReal.coe_mul]; norm_num

/-- The word of the constant 4 is the number 4. -/
theorem ofBits_four : Ideal.ofBits .f32 0x40800000#32 = ((4 : ℝ) : EReal) := by
  simp [Ideal.ofBits, Ideal.ieee, -EReal.coe_mul]; norm_num

/-- The word of the constant 0.25 is a quarter. -/
theorem ofBits_quarter : Ideal.ofBits .f32 0x3E800000#32 = ((1 / 4 : ℝ) : EReal) := by
  simp [Ideal.ofBits, Ideal.ieee, -EReal.coe_mul]; norm_num

/-- Dividing by four is multiplying by a quarter. -/
theorem div_four (x : EReal) :
    Ideal.div x (Ideal.ofBits .f32 0x40800000#32) = x * Ideal.ofBits .f32 0x3E800000#32 := by
  rw [ofBits_four, ofBits_quarter, Ideal.div_coe (by norm_num)]

/-- A factor two on the left of every product of a finite sum comes out of the sum. -/
theorem two_mul_sum {ι : Type} (s : Finset ι) (f g : ι → EReal) :
    ∑ d ∈ s, Ideal.ofBits .f32 0x40000000#32 * f d * g d = Ideal.ofBits .f32 0x40000000#32 * ∑ d ∈ s, f d * g d := by
  classical
  induction s using Finset.induction_on with
  | empty => simp
  | insert a s ha ih =>
    rw [Finset.sum_insert ha, Finset.sum_insert ha, ih, ofBits_two,
      EReal.left_distrib_of_nonneg_of_ne_top (by exact_mod_cast (by norm_num : (0:ℝ) ≤ 2)) (EReal.coe_ne_top _), mul_assoc]

end Cert.Spec

end
-- ==== Proof.RefBucket.lean ====
/-
  The reference's bucket of a row: its projections at an entry, then its two remainders by 1024.
-/
module

public import proofs.«01_k».proof.Proof.RefRows
public import proofs.«01_k».proof.Proof.Words
public import proofs.«01_k».proof.Proof.Consts

@[expose] public section

set_option maxRecDepth 16384

noncomputable section

namespace Cert.ReferenceIdeal.Val

open Cert.ReferenceIdeal Cert.ReferenceIdeal.Value Cert.Spec
open Idealize.ShloMosaic Idealize.ShloMosaic.TcCoe Idealize.SL.Sem

variable (X : Valuation τ sig (Elt Ideal))

/-- The divisor of both remainders is 1024. -/
theorem divisor_eq :
    Scalar.select (IntOp.cmpi .eq (id (constantI S_ 32 1024#32) ix0) 0#32) 1#32 (id (constantI S_ 32 1024#32) ix0) = 1024#32 := rfl

/-- The reference's table of primes. -/
theorem lit0_apply (j : Fin 16) : lit0 (S16.rowMajor (ix1 j)) = primes j := by
  fin_cases j <;> rfl

/-- The hash word of row `R` and projection `j`: the scaled projection rounded down, times the prime. -/
def hashR (R : Fin 4096) (j : Fin 16) : BitVec 32 :=
  Ideal.fptosi 32 (Ideal.liftRound Int.floor (dense ((args X).out R) (args X).Wp (args X).bp j * Ideal.ofBits .f32 0x3E800000#32)) * primes j

/-- The first remainder at an entry, before its sign is corrected. -/
theorem call5_v4_apply (R : Fin 4096) (j : Fin 16) :
    res_main_call5_v4 X (ix2 R j) = IntOp.remsi .host (hashR X R j) 1024#32 := by
  have h35 := v35_apply X R
  unfold hashR dense
  rw [← lit0_apply, ← div_four]
  unfold res_main_call5_v4 res_main_call5_v2 res_main_call5_v0
  generalize res_main_v35 X = T at *
  clean_types
  pointwise
  rw [divisor_eq]
  simp only [h35]
  rfl

/-- The sum of the corrected remainders of row `R`, over the projections. -/
def foldR (R : Fin 4096) : BitVec 32 :=
  Finset.univ.fold IntOp.addi 0#32 fun c : Fin 16 => hashR X R c &&& 1023#32

/-- The second remainder at a row, before its sign is corrected. -/
theorem call6_v4_apply (R : Fin 4096) : res_main_call6_v4 X (ix1 R) = IntOp.remsi .host (foldR X R) 1024#32 := by
  have h5 := call5_v4_apply X R
  unfold res_main_call6_v4 res_main_call6_v2 res_main_call6_v0 res_main_call5_v2 res_main_call5_v0
  generalize res_main_call5_v4 X = T at *
  clean_types
  pointwise
  exact congrArg (fun z => IntOp.remsi .host z 1024#32) (Finset.fold_congr fun x _ => corrected_rem _ _ (h5 x))

/-- The reference's bucket of a row. -/
theorem v49_apply (R : Fin 4096) : res_main_v49 X (ix1 R) = (args X).bkt R := by
  have h6 := call6_v4_apply X R
  unfold res_main_v49 res_main_call6_v2 res_main_call6_v0
  generalize res_main_call6_v4 X = T at *
  clean_types
  pointwise
  exact corrected_rem _ _ h6

end Cert.ReferenceIdeal.Val

end
-- ==== Proof.Scatter.lean ====
/-
  The reference's two scatters: an entry is its starting value plus the sum over the rows whose index word is the
  entry's own row.
-/
module

public import Idealize.ShloMosaic.Lib.Routing.OpsPair
public import proofs.«01_k».proof.Proof.Words
public import proofs.«01_k».proof.Proof.Gen.ReferenceIdeal.Run

@[expose] public section

set_option maxRecDepth 16384

noncomputable section

namespace Cert.ReferenceIdeal.Val

open Cert.ReferenceIdeal Cert.ReferenceIdeal.Value Cert.Spec
open Idealize.ShloMosaic Idealize.ShloMosaic.TcCoe Idealize.SL.Sem

/-- In the scatter of scalars, update `r` lands at `k` exactly when its index word is `k`. -/
theorem lands_one (idx : IVec S4096x1 32) (r : Fin 4096) (k : Fin 1024) :
    scatter_S1024_S4096x1_S4096_n_0_0_1.resultIdx? (ix1 r) idx = some (ix1 k) ↔ idx (ix2 r 0) = BitVec.ofNat 32 k.val := by
  rw [Routing.resultIdx?_eq_some, ← toInt_eq_iff]
  have h0 : scatter_S1024_S4096x1_S4096_n_0_0_1.start (ix1 r) idx 0 = (idx (ix2 r 0)).toInt := by
    unfold ScatterDims.start
    rw [dif_pos (by decide)]
    congr 2
    funext b
    match b with
    | ⟨0, _⟩ => rfl
    | ⟨1, _⟩ => rfl
  have w0 : scatter_S1024_S4096x1_S4096_n_0_0_1.window (ix1 r) 0 = 0 := rfl
  constructor
  · intro h
    have := h 0
    rw [h0, w0] at this
    simpa using this
  · intro h a
    match a with
    | ⟨0, _⟩ =>
      show scatter_S1024_S4096x1_S4096_n_0_0_1.start (ix1 r) idx 0 + (scatter_S1024_S4096x1_S4096_n_0_0_1.window (ix1 r) 0 : Int) = _
      rw [h0, w0]
      simpa using h

/-- In the scatter of rows, update `(r, e)` lands at `(k, d)` exactly when `r`'s index word is `k` and `e` is `d`. -/
theorem lands_row (idx : IVec S4096x1 32) (r : Fin 4096) (e d : Fin 512) (k : Fin 1024) :
    scatter_S1024x512_S4096x1_S4096x512_1_0_0_1.resultIdx? (ix2 r e) idx = some (ix2 k d)
      ↔ e = d ∧ idx (ix2 r 0) = BitVec.ofNat 32 k.val := by
  rw [Routing.resultIdx?_eq_some, ← toInt_eq_iff]
  have h0 : scatter_S1024x512_S4096x1_S4096x512_1_0_0_1.start (ix2 r e) idx 0 = (idx (ix2 r 0)).toInt := by
    unfold ScatterDims.start
    rw [dif_pos (by decide)]
    congr 2
    funext b
    match b with
    | ⟨0, _⟩ => rfl
    | ⟨1, _⟩ => rfl
  have h1 : scatter_S1024x512_S4096x1_S4096x512_1_0_0_1.start (ix2 r e) idx 1 = 0 := rfl
  have w0 : scatter_S1024x512_S4096x1_S4096x512_1_0_0_1.window (ix2 r e) 0 = 0 := rfl
  have w1 : scatter_S1024x512_S4096x1_S4096x512_1_0_0_1.window (ix2 r e) 1 = e.val := rfl
  constructor
  · intro h
    have a0 := h 0
    have a1 := h 1
    rw [h0, w0] at a0
    rw [h1, w1] at a1
    refine ⟨Fin.ext ?_, by simpa using a0⟩
    have a2 : (0 : Int) + (e.val : Int) = (d.val : Int) := a1
    omega
  · rintro ⟨rfl, h⟩ a
    match a with
    | ⟨0, _⟩ =>
      show scatter_S1024x512_S4096x1_S4096x512_1_0_0_1.start (ix2 r e) idx 0
        + (scatter_S1024x512_S4096x1_S4096x512_1_0_0_1.window (ix2 r e) 0 : Int) = _
      rw [h0, w0]
      simpa using h
    | ⟨1, _⟩ =>
      show scatter_S1024x512_S4096x1_S4096x512_1_0_0_1.start (ix2 r e) idx 1
        + (scatter_S1024x512_S4096x1_S4096x512_1_0_0_1.window (ix2 r e) 1 : Int) = _
      rw [h1, w1]
      simp

/-- The scatter of scalars at an entry. -/
theorem scatter_one (z : FVec Ideal S1024 .f32) (idx : IVec S4096x1 32) (upd : FVec Ideal S4096 .f32) (k : Fin 1024) :
    Host.scatterAdd scatter_S1024_S4096x1_S4096_n_0_0_1 z idx upd (ix1 k)
      = z (ix1 k) + ∑ r : Fin 4096, if idx (ix2 r 0) = BitVec.ofNat 32 k.val then upd (ix1 r) else 0 := by
  show z (ix1 k) + ∑ j ∈ Finset.univ.filter
    (fun j => scatter_S1024_S4096x1_S4096_n_0_0_1.resultIdx? j idx = some (ix1 k)), upd j = _
  rw [Finset.sum_filter]
  congr 1
  refine (sum_idx1 (n0 := 4096) _).trans (Finset.sum_congr rfl fun r _ => ?_)
  exact if_congr (lands_one idx r k) rfl rfl

/-- The scatter of rows at an entry. -/
theorem scatter_row (z : FVec Ideal S1024x512 .f32) (idx : IVec S4096x1 32) (upd : FVec Ideal S4096x512 .f32)
    (k : Fin 1024) (d : Fin 512) :
    Host.scatterAdd scatter_S1024x512_S4096x1_S4096x512_1_0_0_1 z idx upd (ix2 k d)
      = z (ix2 k d) + ∑ r : Fin 4096, if idx (ix2 r 0) = BitVec.ofNat 32 k.val then upd (ix2 r d) else 0 := by
  show z (ix2 k d) + ∑ j ∈ Finset.univ.filter
    (fun j => scatter_S1024x512_S4096x1_S4096x512_1_0_0_1.resultIdx? j idx = some (ix2 k d)), upd j = _
  rw [Finset.sum_filter]
  congr 1
  refine (sum_idx2 (n0 := 4096) (n1 := 512) _).trans (Finset.sum_congr rfl fun r _ => ?_)
  refine (Finset.sum_congr rfl fun e _ => if_congr (lands_row idx r e d k) rfl rfl).trans ?_
  by_cases h : idx (ix2 r 0) = BitVec.ofNat 32 k.val
  · simp only [h, and_true, if_true, Finset.sum_ite_eq', Finset.mem_univ]
  · simp only [h, and_false, if_false, Finset.sum_const_zero]

end Cert.ReferenceIdeal.Val

end
-- ==== Proof.RefMeans.lean ====
/-
  The reference's bucket means, one entry at a time, in the words of Spec.lean.
-/
module

public import proofs.«01_k».proof.Proof.RefBucket
public import proofs.«01_k».proof.Proof.Scatter

@[expose] public section

set_option maxRecDepth 16384

noncomputable section

namespace Cert.ReferenceIdeal.Val

open Cert.ReferenceIdeal Cert.ReferenceIdeal.Value Cert.Spec
open Idealize.ShloMosaic Idealize.ShloMosaic.TcCoe Idealize.SL.Sem

variable (X : Valuation τ sig (Elt Ideal))

/-- The bucket means of a launch's buffers. -/
def meansR : Fin 1024 → Fin 512 → EReal := means (sums (args X).bkt (args X).out) (counts (args X).bkt)

/-- The scatter of the rows at an entry, from a zero start: the bucket's sum. -/
theorem sums_apply (T : FVec Ideal S4096x512 .f32) (B : IVec S4096 32) (o : Fin 4096 → Fin 512 → EReal) (b : Fin 4096 → BitVec 32)
    (hT : ∀ r d, T (ix2 r d) = o r d) (hB : ∀ r, B (ix1 r) = b r) (k : Fin 1024) (d : Fin 512) :
    Host.scatterAdd scatter_S1024x512_S4096x1_S4096x512_1_0_0_1 (broadcastInDim S1024x512 ![] Gen.bcast_S_S1024x512 (constant S_ .f32 0x00000000#32))
      (broadcastInDim S4096x1 ![0] Gen.bcast_S4096_S4096x1_0 B) T (ix2 k d) = sums b o k d := by
  rw [scatter_row]
  unfold sums
  pointwise
  simp only [hT, hB]

/-- The scatter of the ones at an entry, from a zero start: the bucket's count. -/
theorem counts_apply (B : IVec S4096 32) (b : Fin 4096 → BitVec 32) (hB : ∀ r, B (ix1 r) = b r) (k : Fin 1024) :
    Host.scatterAdd scatter_S1024_S4096x1_S4096_n_0_0_1 (broadcastInDim S1024 ![] Gen.bcast_S_S1024 (constant (F := Ideal) S_ .f32 0x00000000#32))
      (broadcastInDim S4096x1 ![0] Gen.bcast_S4096_S4096x1_0 B) (broadcastInDim S4096 ![] Gen.bcast_S_S4096 (constant S_ .f32 0x3F800000#32)) (ix1 k)
      = counts b k := by
  rw [scatter_one]
  unfold counts
  pointwise
  simp only [hB]

/-- The reference's bucket means at an entry. -/
theorem v61_apply (k : Fin 1024) (d : Fin 512) : res_main_v61 X (ix2 k d) = meansR X k d := by
  have h35 := v35_apply X
  have h49 := v49_apply X
  unfold meansR res_main_v61
  generalize res_main_v35 X = T at *
  generalize res_main_v49 X = B at *
  have hs := sums_apply T B _ _ h35 h49 k d
  have hn := counts_apply B _ h49 k
  unfold means
  clean_types
  pointwise
  rw [hs, hn]

end Cert.ReferenceIdeal.Val

end
-- ==== Proof.RefResult.lean ====
/-
  The reference's similarities and its result, one entry at a time, in the words of Spec.lean.
-/
module

public import proofs.«01_k».proof.Proof.RefMeans

@[expose] public section

set_option maxRecDepth 16384

noncomputable section

namespace Cert.ReferenceIdeal.Val

open Cert.ReferenceIdeal Cert.ReferenceIdeal.Value Cert.Spec
open Idealize.ShloMosaic Idealize.ShloMosaic.TcCoe Idealize.SL.Sem

variable (X : Valuation τ sig (Elt Ideal))

/-- The similarity of row `R` to the mean of bucket `k`, as the reference computes it. -/
theorem v81_apply (R : Fin 4096) (k : Fin 1024) : res_main_v81 X (ix2 R k) = sim ((args X).out R) (meansR X) k := by
  have h35 := v35_apply X
  have h61 := v61_apply X
  unfold sim res_main_v81
  rw [← two_mul_sum]
  generalize res_main_v35 X = T at *
  generalize res_main_v61 X = M at *
  clean_types
  pointwise
  simp only [h35, h61]

end Cert.ReferenceIdeal.Val

end
-- ==== Proof.RefArray.lean ====
/-
  The reference's result array as the specification of its arguments.
-/
module

public import proofs.«01_k».proof.Proof.RefResult

@[expose] public section

set_option maxRecDepth 16384

noncomputable section

namespace Cert.ReferenceIdeal.Val

open Cert.ReferenceIdeal Cert.ReferenceIdeal.Value Cert.Spec
open Idealize.ShloMosaic Idealize.ShloMosaic.TcCoe Idealize.SL.Sem

variable (X : Valuation τ sig (Elt Ideal))

/-- The similarities of each row divided by their sum: the reference's result at an entry. -/
theorem quotient_apply (T : FVec Ideal S4096x1024 .f32) (s : Fin 4096 → Fin 1024 → EReal) (hT : ∀ R k, T (ix2 R k) = s R k)
    (R : Fin 4096) (k : Fin 1024) :
    Host.divf T (broadcastInDim S4096x1024 ![0, 1] Gen.bcast_S4096x1_S4096x1024_0_1 (broadcastInDim S4096x1 ![0] Gen.bcast_S4096_S4096x1_0
      (Host.reduceAdd T (constant S_ .f32 0x00000000#32) Gen.reducesTo_S4096x1024_S4096_d1 Gen.h_S_))) (ix2 R k)
      = Ideal.div (s R k) (∑ k', s R k') := by
  pointwise
  simp only [hT]

/-- The reference's result array. -/
theorem result_eq :
    Host.divf (res_main_v81 X) (broadcastInDim S4096x1024 ![0, 1] Gen.bcast_S4096x1_S4096x1024_0_1 (broadcastInDim S4096x1 ![0] Gen.bcast_S4096_S4096x1_0
      (Host.reduceAdd (res_main_v81 X) (constant S_ .f32 0x00000000#32) Gen.reducesTo_S4096x1024_S4096_d1 Gen.h_S_)))
      = fun i => (args X).result (i 0) (i 1) := by
  have h81 := v81_apply X
  generalize res_main_v81 X = T at *
  funext i
  rw [eq_ix2 i]
  exact quotient_apply T _ h81 (i 0) (i 1)

end Cert.ReferenceIdeal.Val

end
-- ==== Proof.Equation.lean ====
/-
  The two programs' arguments are the same record, so the kernel's result array is the reference's.
-/
module

public import proofs.«01_k».proof.Proof.KernelValue
public import proofs.«01_k».proof.Proof.RefArray

@[expose] public section

set_option maxRecDepth 16384

noncomputable section

namespace Cert.Spec

open Idealize.ShloMosaic Idealize.ShloMosaic.TcCoe Idealize.SL.Sem Idealize.ShloMosaic.StableHlo

/-- From memories that agree on the arguments the two programs have the same arguments. -/
theorem args_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) :
    Cert.ReferenceIdeal.Val.args (launchContents m' c) = Cert.KernelIdeal.Val.args m c := by
  obtain ⟨h0, h1, h2, h3, h4, h5, h6, h7, h8, h9, h10, h11, h12, h13, h14, h15, h16⟩ := h
  unfold Cert.KernelIdeal.Val.args
  rw [← h0, ← h1, ← h2, ← h3, ← h4, ← h5, ← h6, ← h7, ← h8, ← h9, ← h10, ← h11, ← h12, ← h13, ← h14, ← h15, ← h16]
  rfl

end Cert.Spec

end
-- ==== Proof.lean ====
/-
  The proof of `Cert.Claim`: the three programs leave their arguments alone and their counters at zero, the
  idealization rewrote nothing, and over the extended reals the kernel's result is the reference's.
-/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Equation
public import Idealize.ShloMosaic.Lib.Quiescent

@[expose] public section

set_option maxRecDepth 16384

noncomputable section

namespace Cert.Proof

open Idealize.ShloMosaic Idealize.SL.Sem Idealize.ShloMosaic.StableHlo

/-- The kernel at the machine's floats ends with its arguments unchanged and its counters at zero. -/
theorem frame_kernel : Cert.quiescent_Kernel := fun m ρ _ => Cert.Kernel.Gen.frame (F := Bits) m ρ

/-- The kernel over the extended reals ends with its arguments unchanged and its counters at zero. -/
theorem frame_kernel_ideal : Cert.quiescent_KernelIdeal := fun m ρ _ => Cert.KernelIdeal.Gen.frame (F := Ideal) m ρ

/-- The reference ends with its arguments unchanged; it has no counters. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- Over the extended reals, from the same arguments, the kernel's result array and the reference's are both the
    specification's of these arguments. -/
theorem algebraic : Cert.algebraic_KernelIdeal_ReferenceIdeal := by
  intro m ρ m' ρ' _ hagree
  refine ⟨fun c => Cert.KernelIdeal.Val.arrQ (Cert.KernelIdeal.Val.args m c).result, ?_, ?_⟩
  · exact (θ_run Cert.KernelIdeal.defs _ _).mono
      (fun _ h c => ⟨(h c).1.trans (Cert.KernelIdeal.Val.result_eq m ρ c), (h c).2⟩) (Cert.KernelIdeal.Val.run (F := Ideal) m ρ)
  · refine (θ_run Cert.ReferenceIdeal.defs _ _).mono
      (fun _ h c => ⟨((h c).1.trans (Cert.ReferenceIdeal.Val.result_eq (launchContents m' c))).trans ?_, (h c).2⟩)
      (Cert.ReferenceIdeal.Value.run (F := Ideal) m' ρ')
    rw [Cert.Spec.args_eq m m' c (hagree c)]
    rfl

/-- Every claim of this directory. -/
theorem claim : Cert.Claim :=
  ⟨Cert.Kernel.Gen.facts, Cert.KernelIdeal.Gen.facts, Cert.ReferenceIdeal.Gen.facts, frame_kernel, frame_kernel_ideal,
    frame_reference, trivial, algebraic⟩

end Cert.Proof

end
